-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases_and_proper_anchors [hPre_zero_biases_and_proper_anchors : Cert.Pre_zero_biases_and_proper_anchors.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases_and_proper_anchors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_zero_biases_and_proper_anchors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_zero_biases_and_proper_anchors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_zero_biases_and_proper_anchors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_zero_biases_and_proper_anchors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases_and_proper_anchors [hPre_zero_biases_and_proper_anchors : Cert.Pre_zero_biases_and_proper_anchors.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases_and_proper_anchors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_zero_biases_and_proper_anchors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_zero_biases_and_proper_anchors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_zero_biases_and_proper_anchors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_zero_biases_and_proper_anchors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_zero_biases_and_proper_anchors [hKernelIdeal : Cert.KernelIdeal.Facts] [hPre_zero_biases_and_proper_anchors : Cert.Pre_zero_biases_and_proper_anchors.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases_and_proper_anchors m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_zero_biases_and_proper_anchors [hReferenceIdeal : Cert.ReferenceIdeal.Facts] [hPre_zero_biases_and_proper_anchors : Cert.Pre_zero_biases_and_proper_anchors.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases_and_proper_anchors m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_zero_biases_and_proper_anchors [hKernelIdeal : Cert.KernelIdeal.Facts] [hReferenceIdeal : Cert.ReferenceIdeal.Facts] [hPre_zero_biases_and_proper_anchors : Cert.Pre_zero_biases_and_proper_anchors.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases_and_proper_anchors m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24_9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_zero_biases_and_proper_anchors : Cert.Pre_zero_biases_and_proper_anchors.Facts),
    quiescent_Kernel (hKernel := hKernel)
    ∧ quiescent_KernelIdeal (hKernelIdeal := hKernelIdeal)
    ∧ quiescent_KernelIdeal_pre_zero_biases_and_proper_anchors (hKernelIdeal := hKernelIdeal) (hPre_zero_biases_and_proper_anchors := hPre_zero_biases_and_proper_anchors)
    ∧ quiescent_ReferenceIdeal (hReferenceIdeal := hReferenceIdeal)
    ∧ quiescent_ReferenceIdeal_pre_zero_biases_and_proper_anchors (hReferenceIdeal := hReferenceIdeal) (hPre_zero_biases_and_proper_anchors := hPre_zero_biases_and_proper_anchors)
    ∧ preserves_Kernel_KernelIdeal
    ∧ algebraic_KernelIdeal_ReferenceIdeal_pre_zero_biases_and_proper_anchors (hKernelIdeal := hKernelIdeal) (hReferenceIdeal := hReferenceIdeal) (hPre_zero_biases_and_proper_anchors := hPre_zero_biases_and_proper_anchors)
-- ==== Pre_zero_biases_and_proper_anchors.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn_part1 {F : FTy → Type} [FloatOps F] (main_arg7 : FVec F S1024 .f32) (main_v1 : IVec S1024 1) (main_v3 : IVec S1024 1) (main_v9 : IVec S_ 1) (main_v15 : IVec S_ 1) : IVec S1024 1 × IVec S1024 1 × IVec S_ 1 × IVec S_ 1 × IVec S_ 1 :=
  let main_v16 : FVec F S1024 .f32 := mulf main_arg7 main_arg7
  let main_cst_7 : FVec F S_ .f32 := constant S_ .f32 0x00000000#32
  let main_v17 : FVec F S_ .f32 := (fun x v => Host.reduceAdd x v reducesTo_S1024_S_d0 h_S_) main_v16 main_cst_7
  let main_v18 : FVec F S_ .f32 := Host.sqrt main_v17
  let main_cst_8 : FVec F S_ .f32 := constant S_ .f32 0x2B8CBCCC#32
  let main_v19 : IVec S_ 1 := cmpf .oge main_v18 main_cst_8
  let main_cst_9 : FVec F S_ .f32 := constant S_ .f32 0x7F800000#32
  let main_v20 : IVec S_ 1 := cmpf .olt main_v18 main_cst_9
  let main_v21 : IVec S_ 1 := andi main_v19 main_v20
  (main_v1, main_v3, main_v9, main_v15, main_v21)

def fn {F : FTy → Type} [FloatOps F] (main_arg0 : FVec F S4096x1024 .f32) (main_arg1 : FVec F S1024x1024 .f32) (main_arg2 : FVec F S1024 .f32) (main_arg3 : FVec F S1024x1024 .f32) (main_arg4 : FVec F S1024 .f32) (main_arg5 : FVec F S1024 .f32) (main_arg6 : FVec F S1024 .f32) (main_arg7 : FVec F S1024 .f32) : IVec S1024 1 × IVec S1024 1 × IVec S_ 1 × IVec S_ 1 × IVec S_ 1 :=
  let main_cst : FVec F S_ .f32 := constant S_ .f32 0x00000000#32
  let main_v0 : FVec F S1024 .f32 := broadcastInDim S1024 ![] bcast_S_S1024 main_cst
  let main_v1 : IVec S1024 1 := cmpf .oeq main_arg2 main_v0
  let main_cst_0 : FVec F S_ .f32 := constant S_ .f32 0x00000000#32
  let main_v2 : FVec F S1024 .f32 := broadcastInDim S1024 ![] bcast_S_S1024 main_cst_0
  let main_v3 : IVec S1024 1 := cmpf .oeq main_arg4 main_v2
  let main_v4 : FVec F S1024 .f32 := mulf main_arg5 main_arg5
  let main_cst_1 : FVec F S_ .f32 := constant S_ .f32 0x00000000#32
  let main_v5 : FVec F S_ .f32 := (fun x v => Host.reduceAdd x v reducesTo_S1024_S_d0 h_S_) main_v4 main_cst_1
  let main_v6 : FVec F S_ .f32 := Host.sqrt main_v5
  let main_cst_2 : FVec F S_ .f32 := constant S_ .f32 0x2B8CBCCC#32
  let main_v7 : IVec S_ 1 := cmpf .oge main_v6 main_cst_2
  let main_cst_3 : FVec F S_ .f32 := constant S_ .f32 0x7F800000#32
  let main_v8 : IVec S_ 1 := cmpf .olt main_v6 main_cst_3
  let main_v9 : IVec S_ 1 := andi main_v7 main_v8
  let main_v10 : FVec F S1024 .f32 := mulf main_arg6 main_arg6
  let main_cst_4 : FVec F S_ .f32 := constant S_ .f32 0x00000000#32
  let main_v11 : FVec F S_ .f32 := (fun x v => Host.reduceAdd x v reducesTo_S1024_S_d0 h_S_) main_v10 main_cst_4
  let main_v12 : FVec F S_ .f32 := Host.sqrt main_v11
  let main_cst_5 : FVec F S_ .f32 := constant S_ .f32 0x2B8CBCCC#32
  let main_v13 : IVec S_ 1 := cmpf .oge main_v12 main_cst_5
  let main_cst_6 : FVec F S_ .f32 := constant S_ .f32 0x7F800000#32
  let main_v14 : IVec S_ 1 := cmpf .olt main_v12 main_cst_6
  let main_v15 : IVec S_ 1 := andi main_v13 main_v14
  fn_part1 (F := F) main_arg7 main_v1 main_v3 main_v9 main_v15
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S3x1024 : Shape := ⟨2, ![3, 1024]⟩
abbrev S_ : Shape := ⟨0, ![]⟩
abbrev S3 : Shape := ⟨1, ![3]⟩
abbrev S3x1 : Shape := ⟨2, ![3, 1]⟩
abbrev S125x1024 : Shape := ⟨2, ![125, 1024]⟩
abbrev S128x1024 : Shape := ⟨2, ![128, 1024]⟩
abbrev S1152x1024 : Shape := ⟨2, ![1152, 1024]⟩
abbrev S8x1024 : Shape := ⟨2, ![8, 1024]⟩
abbrev S512x1024 : Shape := ⟨2, ![512, 1024]⟩
abbrev S1x8 : Shape := ⟨2, ![1, 8]⟩
abbrev S256x1024 : Shape := ⟨2, ![256, 1024]⟩
abbrev S256 : Shape := ⟨1, ![256]⟩
abbrev S256x1 : Shape := ⟨2, ![256, 1]⟩
abbrev S256x1152 : Shape := ⟨2, ![256, 1152]⟩
abbrev S256x8 : Shape := ⟨2, ![256, 8]⟩

abbrev nBuf : Space → Nat
  | .hbm => 28
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S3x1024, .f32⟩
  | .hbm, ⟨12, _⟩ => ⟨S3x1024, .f32⟩
  | .hbm, ⟨13, _⟩ => ⟨S_, .f32⟩
  | .hbm, ⟨14, _⟩ => ⟨S3, .f32⟩
  | .hbm, ⟨15, _⟩ => ⟨S3x1, .f32⟩
  | .hbm, ⟨16, _⟩ => ⟨S3x1, .f32⟩
  | .hbm, ⟨17, _⟩ => ⟨S_, .f32⟩
  | .hbm, ⟨18, _⟩ => ⟨S3x1, .f32⟩
  | .hbm, ⟨19, _⟩ => ⟨S3x1, .f32⟩
  | .hbm, ⟨20, _⟩ => ⟨S3x1024, .f32⟩
  | .hbm, ⟨21, _⟩ => ⟨S3x1024, .f32⟩
  | .hbm, ⟨22, _⟩ => ⟨S_, .f32⟩
  | .hbm, ⟨23, _⟩ => ⟨S125x1024, .f32⟩
  | .hbm, ⟨24, _⟩ => ⟨S128x1024, .f32⟩
  | .hbm, ⟨25, _⟩ => ⟨S1152x1024, .f32⟩
  | .hbm, ⟨26, _⟩ => ⟨S8x1024, .f32⟩
  | .hbm, ⟨27, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1152x1024, .f32⟩
  | .local _ .vmem, ⟨3, _⟩ => ⟨S1024x1024, .f32⟩
  | .local _ .vmem, ⟨4, _⟩ => ⟨S8x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S1 : Shape := ⟨1, ![1]⟩
abbrev S4096 : Shape := ⟨1, ![4096]⟩
abbrev S4096x1 : Shape := ⟨2, ![4096, 1]⟩
abbrev S1x1024 : Shape := ⟨2, ![1, 1024]⟩

abbrev nBuf : Space → Nat
  | .hbm => 183
  | .vmem => 0
  | .smem => 0
  | _ => 0

abbrev hbmTy0_0 (i : Nat) : BufTy := match i % 128 with
  | 0 => ⟨S4096x1024, .f32⟩
  | 1 => ⟨S1024x1024, .f32⟩
  | 2 => ⟨S1024, .f32⟩
  | 3 => ⟨S1024x1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S_, .f32⟩
  | 10 => ⟨S_, .f32⟩
  | 11 => ⟨S1, .f32⟩
  | 12 => ⟨S1, .f32⟩
  | 13 => ⟨S_, .f32⟩
  | 14 => ⟨S1, .f32⟩
  | 15 => ⟨S1, .f32⟩
  | 16 => ⟨S1024, .f32⟩
  | 17 => ⟨S1024, .f32⟩
  | 18 => ⟨S1024, .f32⟩
  | 19 => ⟨S_, .f32⟩
  | 20 => ⟨S_, .f32⟩
  | 21 => ⟨S1, .f32⟩
  | 22 => ⟨S1, .f32⟩
  | 23 => ⟨S_, .f32⟩
  | 24 => ⟨S1, .f32⟩
  | 25 => ⟨S1, .f32⟩
  | 26 => ⟨S1024, .f32⟩
  | 27 => ⟨S1024, .f32⟩
  | 28 => ⟨S1024, .f32⟩
  | 29 => ⟨S_, .f32⟩
  | 30 => ⟨S_, .f32⟩
  | 31 => ⟨S1, .f32⟩
  | 32 => ⟨S1, .f32⟩
  | 33 => ⟨S_, .f32⟩
  | 34 => ⟨S1, .f32⟩
  | 35 => ⟨S1, .f32⟩
  | 36 => ⟨S1024, .f32⟩
  | 37 => ⟨S1024, .f32⟩
  | 38 => ⟨S_, .i32⟩
  | 39 => ⟨S_, .i32⟩
  | 40 => ⟨S1024x1024, .f32⟩
  | 41 => ⟨S1024, .f32⟩
  | 42 => ⟨S1024x1024, .f32⟩
  | 43 => ⟨S1024, .f32⟩
  | 44 => ⟨S1024, .f32⟩
  | 45 => ⟨S1024, .f32⟩
  | 46 => ⟨S1024, .f32⟩
  | 47 => ⟨S_, .i32⟩
  | 48 => ⟨S_, .i32⟩
  | 49 => ⟨S4096x1024, .f32⟩
  | 50 => ⟨S_, .i32⟩
  | 51 => ⟨S_, .i1⟩
  | 52 => ⟨S_, .i32⟩
  | 53 => ⟨S_, .i32⟩
  | 54 => ⟨S4096x1024, .f32⟩
  | 55 => ⟨S_, .f32⟩
  | 56 => ⟨S4096, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1024, .f32⟩
  | 63 => ⟨S4096x1024, .f32⟩
  | 64 => ⟨S1024x1024, .f32⟩
  | 65 => ⟨S4096x1024, .f32⟩
  | 66 => ⟨S1x1024, .f32⟩
  | 67 => ⟨S4096x1024, .f32⟩
  | 68 => ⟨S4096x1024, .f32⟩
  | 69 => ⟨S4096x1024, .f32⟩
  | 70 => ⟨S1024x1024, .f32⟩
  | 71 => ⟨S4096x1024, .f32⟩
  | 72 => ⟨S1x1024, .f32⟩
  | 73 => ⟨S4096x1024, .f32⟩
  | 74 => ⟨S4096x1024, .f32⟩
  | 75 => ⟨S1x1024, .f32⟩
  | 76 => ⟨S4096x1024, .f32⟩
  | 77 => ⟨S4096x1024, .f32⟩
  | 78 => ⟨S_, .f32⟩
  | 79 => ⟨S4096, .f32⟩
  | 80 => ⟨S4096x1, .f32⟩
  | 81 => ⟨S_, .f32⟩
  | 82 => ⟨S4096x1, .f32⟩
  | 83 => ⟨S4096x1, .f32⟩
  | 84 => ⟨S1x1024, .f32⟩
  | 85 => ⟨S4096x1024, .f32⟩
  | 86 => ⟨S4096x1024, .f32⟩
  | 87 => ⟨S4096x1024, .f32⟩
  | 88 => ⟨S_, .f32⟩
  | 89 => ⟨S4096, .f32⟩
  | 90 => ⟨S4096x1, .f32⟩
  | 91 => ⟨S4096x1, .f32⟩
  | 92 => ⟨S_, .f32⟩
  | 93 => ⟨S4096x1, .f32⟩
  | 94 => ⟨S4096x1, .f32⟩
  | 95 => ⟨S4096x1024, .f32⟩
  | 96 => ⟨S4096x1024, .f32⟩
  | 97 => ⟨S_, .f32⟩
  | 98 => ⟨S4096x1, .f32⟩
  | 99 => ⟨S4096x1, .f32⟩
  | 100 => ⟨S4096x1024, .f32⟩
  | 101 => ⟨S4096x1024, .f32⟩
  | 102 => ⟨S_, .f32⟩
  | 103 => ⟨S4096x1024, .f32⟩
  | 104 => ⟨S4096x1024, .f32⟩
  | 105 => ⟨S1x1024, .f32⟩
  | 106 => ⟨S4096x1024, .f32⟩
  | 107 => ⟨S4096x1024, .f32⟩
  | 108 => ⟨S_, .f32⟩
  | 109 => ⟨S4096, .f32⟩
  | 110 => ⟨S4096x1, .f32⟩
  | 111 => ⟨S_, .f32⟩
  | 112 => ⟨S4096x1, .f32⟩
  | 113 => ⟨S4096x1, .f32⟩
  | 114 => ⟨S1x1024, .f32⟩
  | 115 => ⟨S4096x1024, .f32⟩
  | 116 => ⟨S4096x1024, .f32⟩
  | 117 => ⟨S4096x1024, .f32⟩
  | 118 => ⟨S_, .f32⟩
  | 119 => ⟨S4096, .f32⟩
  | 120 => ⟨S4096x1, .f32⟩
  | 121 => ⟨S4096x1, .f32⟩
  | 122 => ⟨S_, .f32⟩
  | 123 => ⟨S4096x1, .f32⟩
  | 124 => ⟨S4096x1, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S4096x1, .f32⟩
  | 1 => ⟨S4096x1, .f32⟩
  | 2 => ⟨S4096x1024, .f32⟩
  | 3 => ⟨S4096x1024, .f32⟩
  | 4 => ⟨S4096x1024, .f32⟩
  | 5 => ⟨S1x1024, .f32⟩
  | 6 => ⟨S4096x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S1x1024, .f32⟩
  | 15 => ⟨S4096x1024, .f32⟩
  | 16 => ⟨S4096x1024, .f32⟩
  | 17 => ⟨S4096x1024, .f32⟩
  | 18 => ⟨S_, .f32⟩
  | 19 => ⟨S4096, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1024, .f32⟩
  | 26 => ⟨S4096x1024, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S4096, .f32⟩
  | 38 => ⟨S4096x1, .f32⟩
  | 39 => ⟨S4096x1, .f32⟩
  | 40 => ⟨S_, .f32⟩
  | 41 => ⟨S4096x1, .f32⟩
  | 42 => ⟨S4096x1, .i1⟩
  | 43 => ⟨S_, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1024, .f32⟩
  | 50 => ⟨S4096x1024, .f32⟩
  | 51 => ⟨S4096x1024, .i1⟩
  | 52 => ⟨S4096x1024, .f32⟩
  | 53 => ⟨S_, .i32⟩
  | 54 => ⟨S_, .i32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_c_5 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_v24_3 : Ref sig .tc := ⟨.hbm, 43, rfl⟩
abbrev main_v24_4 : Ref sig .tc := ⟨.hbm, 44, rfl⟩
abbrev main_v24_5 : Ref sig .tc := ⟨.hbm, 45, rfl⟩
abbrev main_v24_6 : Ref sig .tc := ⟨.hbm, 46, rfl⟩
abbrev main_v24_7 : Ref sig .tc := ⟨.hbm, 47, rfl⟩
abbrev main_v24_8 : Ref sig .tc := ⟨.hbm, 48, rfl⟩
abbrev main_v24_9 : Ref sig .tc := ⟨.hbm, 49, rfl⟩
abbrev main_while0c_c_15 : Ref sig .tc := ⟨.hbm, 50, rfl⟩
abbrev main_while0c_v25 : Ref sig .tc := ⟨.hbm, 51, rfl⟩
abbrev main_while0b_c_15 : Ref sig .tc := ⟨.hbm, 52, rfl⟩
abbrev main_while0b_v25 : Ref sig .tc := ⟨.hbm, 53, rfl⟩
abbrev main_while0b_v26 : Ref sig .tc := ⟨.hbm, 54, rfl⟩
abbrev main_while0b_cst_16 : Ref sig .tc := ⟨.hbm, 55, rfl⟩
abbrev main_while0b_v27 : Ref sig .tc := ⟨.hbm, 56, rfl⟩
abbrev main_while0b_v28 : Ref sig .tc := ⟨.hbm, 57, rfl⟩
abbrev main_while0b_v29 : Ref sig .tc := ⟨.hbm, 58, rfl⟩
abbrev main_while0b_cst_17 : Ref sig .tc := ⟨.hbm, 59, rfl⟩
abbrev main_while0b_v30 : Ref sig .tc := ⟨.hbm, 60, rfl⟩
abbrev main_while0b_v31 : Ref sig .tc := ⟨.hbm, 61, rfl⟩
abbrev main_while0b_v32 : Ref sig .tc := ⟨.hbm, 62, rfl⟩
abbrev main_while0b_v33 : Ref sig .tc := ⟨.hbm, 63, rfl⟩
abbrev main_while0b_v34 : Ref sig .tc := ⟨.hbm, 64, rfl⟩
abbrev main_while0b_v35 : Ref sig .tc := ⟨.hbm, 65, rfl⟩
abbrev main_while0b_v36 : Ref sig .tc := ⟨.hbm, 66, rfl⟩
abbrev main_while0b_v37 : Ref sig .tc := ⟨.hbm, 67, rfl⟩
abbrev main_while0b_v38 : Ref sig .tc := ⟨.hbm, 68, rfl⟩
abbrev main_while0b_v39 : Ref sig .tc := ⟨.hbm, 69, rfl⟩
abbrev main_while0b_v40 : Ref sig .tc := ⟨.hbm, 70, rfl⟩
abbrev main_while0b_v41 : Ref sig .tc := ⟨.hbm, 71, rfl⟩
abbrev main_while0b_v42 : Ref sig .tc := ⟨.hbm, 72, rfl⟩
abbrev main_while0b_v43 : Ref sig .tc := ⟨.hbm, 73, rfl⟩
abbrev main_while0b_v44 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_cst_18 : Ref sig .tc := ⟨.hbm, 78, rfl⟩
abbrev main_while0b_v48 : Ref sig .tc := ⟨.hbm, 79, rfl⟩
abbrev main_while0b_v49 : Ref sig .tc := ⟨.hbm, 80, rfl⟩
abbrev main_while0b_cst_19 : Ref sig .tc := ⟨.hbm, 81, rfl⟩
abbrev main_while0b_v50 : Ref sig .tc := ⟨.hbm, 82, rfl⟩
abbrev main_while0b_v51 : Ref sig .tc := ⟨.hbm, 83, rfl⟩
abbrev main_while0b_v52 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_cst_20 : Ref sig .tc := ⟨.hbm, 88, rfl⟩
abbrev main_while0b_v56 : Ref sig .tc := ⟨.hbm, 89, rfl⟩
abbrev main_while0b_v57 : Ref sig .tc := ⟨.hbm, 90, rfl⟩
abbrev main_while0b_v58 : Ref sig .tc := ⟨.hbm, 91, rfl⟩
abbrev main_while0b_cst_21 : Ref sig .tc := ⟨.hbm, 92, rfl⟩
abbrev main_while0b_v59 : Ref sig .tc := ⟨.hbm, 93, rfl⟩
abbrev main_while0b_v60 : Ref sig .tc := ⟨.hbm, 94, rfl⟩
abbrev main_while0b_v61 : Ref sig .tc := ⟨.hbm, 95, rfl⟩
abbrev main_while0b_v62 : Ref sig .tc := ⟨.hbm, 96, rfl⟩
abbrev main_while0b_cst_22 : Ref sig .tc := ⟨.hbm, 97, rfl⟩
abbrev main_while0b_v63 : Ref sig .tc := ⟨.hbm, 98, rfl⟩
abbrev main_while0b_v64 : Ref sig .tc := ⟨.hbm, 99, rfl⟩
abbrev main_while0b_v65 : Ref sig .tc := ⟨.hbm, 100, rfl⟩
abbrev main_while0b_v66 : Ref sig .tc := ⟨.hbm, 101, rfl⟩
abbrev main_while0b_cst_23 : Ref sig .tc := ⟨.hbm, 102, rfl⟩
abbrev main_while0b_v67 : Ref sig .tc := ⟨.hbm, 103, rfl⟩
abbrev main_while0b_v68 : Ref sig .tc := ⟨.hbm, 104, rfl⟩
abbrev main_while0b_v69 : Ref sig .tc := ⟨.hbm, 105, rfl⟩
abbrev main_while0b_v70 : Ref sig .tc := ⟨.hbm, 106, rfl⟩
abbrev main_while0b_v71 : Ref sig .tc := ⟨.hbm, 107, rfl⟩
abbrev main_while0b_cst_24 : Ref sig .tc := ⟨.hbm, 108, rfl⟩
abbrev main_while0b_v72 : Ref sig .tc := ⟨.hbm, 109, rfl⟩
abbrev main_while0b_v73 : Ref sig .tc := ⟨.hbm, 110, rfl⟩
abbrev main_while0b_cst_25 : Ref sig .tc := ⟨.hbm, 111, rfl⟩
abbrev main_while0b_v74 : Ref sig .tc := ⟨.hbm, 112, rfl⟩
abbrev main_while0b_v75 : Ref sig .tc := ⟨.hbm, 113, rfl⟩
abbrev main_while0b_v76 : Ref sig .tc := ⟨.hbm, 114, rfl⟩
abbrev main_while0b_v77 : Ref sig .tc := ⟨.hbm, 115, rfl⟩
abbrev main_while0b_v78 : Ref sig .tc := ⟨.hbm, 116, rfl⟩
abbrev main_while0b_v79 : Ref sig .tc := ⟨.hbm, 117, rfl⟩
abbrev main_while0b_cst_26 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_cst_27 : Ref sig .tc := ⟨.hbm, 122, rfl⟩
abbrev main_while0b_v83 : Ref sig .tc := ⟨.hbm, 123, rfl⟩
abbrev main_while0b_v84 : Ref sig .tc := ⟨.hbm, 124, rfl⟩
abbrev main_while0b_v85 : Ref sig .tc := ⟨.hbm, 125, rfl⟩
abbrev main_while0b_v86 : Ref sig .tc := ⟨.hbm, 126, rfl⟩
abbrev main_while0b_cst_28 : Ref sig .tc := ⟨.hbm, 127, rfl⟩
abbrev main_while0b_v87 : Ref sig .tc := ⟨.hbm, 128, rfl⟩
abbrev main_while0b_v88 : Ref sig .tc := ⟨.hbm, 129, rfl⟩
abbrev main_while0b_v89 : Ref sig .tc := ⟨.hbm, 130, rfl⟩
abbrev main_while0b_v90 : Ref sig .tc := ⟨.hbm, 131, rfl⟩
abbrev main_while0b_v91 : Ref sig .tc := ⟨.hbm, 132, rfl⟩
abbrev main_while0b_v92 : Ref sig .tc := ⟨.hbm, 133, rfl⟩
abbrev main_while0b_v93 : Ref sig .tc := ⟨.hbm, 134, rfl⟩
abbrev main_while0b_v94 : Ref sig .tc := ⟨.hbm, 135, rfl⟩
abbrev main_while0b_cst_29 : Ref sig .tc := ⟨.hbm, 136, rfl⟩
abbrev main_while0b_v95 : Ref sig .tc := ⟨.hbm, 137, rfl⟩
abbrev main_while0b_v96 : Ref sig .tc := ⟨.hbm, 138, rfl⟩
abbrev main_while0b_cst_30 : Ref sig .tc := ⟨.hbm, 139, rfl⟩
abbrev main_while0b_v97 : Ref sig .tc := ⟨.hbm, 140, rfl⟩
abbrev main_while0b_v98 : Ref sig .tc := ⟨.hbm, 141, rfl⟩
abbrev main_while0b_v99 : Ref sig .tc := ⟨.hbm, 142, rfl⟩
abbrev main_while0b_v100 : Ref sig .tc := ⟨.hbm, 143, rfl⟩
abbrev main_while0b_v101 : Ref sig .tc := ⟨.hbm, 144, rfl⟩
abbrev main_while0b_v102 : Ref sig .tc := ⟨.hbm, 145, rfl⟩
abbrev main_while0b_cst_31 : Ref sig .tc := ⟨.hbm, 146, rfl⟩
abbrev main_while0b_v103 : Ref sig .tc := ⟨.hbm, 147, rfl⟩
abbrev main_while0b_v104 : Ref sig .tc := ⟨.hbm, 148, rfl⟩
abbrev main_while0b_v105 : Ref sig .tc := ⟨.hbm, 149, rfl⟩
abbrev main_while0b_cst_32 : Ref sig .tc := ⟨.hbm, 150, rfl⟩
abbrev main_while0b_v106 : Ref sig .tc := ⟨.hbm, 151, rfl⟩
abbrev main_while0b_v107 : Ref sig .tc := ⟨.hbm, 152, rfl⟩
abbrev main_while0b_v108 : Ref sig .tc := ⟨.hbm, 153, rfl⟩
abbrev main_while0b_v109 : Ref sig .tc := ⟨.hbm, 154, rfl⟩
abbrev main_while0b_cst_33 : Ref sig .tc := ⟨.hbm, 155, rfl⟩
abbrev main_while0b_v110 : Ref sig .tc := ⟨.hbm, 156, rfl⟩
abbrev main_while0b_v111 : Ref sig .tc := ⟨.hbm, 157, rfl⟩
abbrev main_while0b_v112 : Ref sig .tc := ⟨.hbm, 158, rfl⟩
abbrev main_while0b_v113 : Ref sig .tc := ⟨.hbm, 159, rfl⟩
abbrev main_while0b_v114 : Ref sig .tc := ⟨.hbm, 160, rfl⟩
abbrev main_while0b_v115 : Ref sig .tc := ⟨.hbm, 161, rfl⟩
abbrev main_while0b_v116 : Ref sig .tc := ⟨.hbm, 162, rfl⟩
abbrev main_while0b_v117 : Ref sig .tc := ⟨.hbm, 163, rfl⟩
abbrev main_while0b_cst_34 : Ref sig .tc := ⟨.hbm, 164, rfl⟩
abbrev main_while0b_v118 : Ref sig .tc := ⟨.hbm, 165, rfl⟩
abbrev main_while0b_v119 : Ref sig .tc := ⟨.hbm, 166, rfl⟩
abbrev main_while0b_v120 : Ref sig .tc := ⟨.hbm, 167, rfl⟩
abbrev main_while0b_cst_35 : Ref sig .tc := ⟨.hbm, 168, rfl⟩
abbrev main_while0b_v121 : Ref sig .tc := ⟨.hbm, 169, rfl⟩
abbrev main_while0b_v122 : Ref sig .tc := ⟨.hbm, 170, rfl⟩
abbrev main_while0b_cst_36 : Ref sig .tc := ⟨.hbm, 171, rfl⟩
abbrev main_while0b_v123 : Ref sig .tc := ⟨.hbm, 172, rfl⟩
abbrev main_while0b_v124 : Ref sig .tc := ⟨.hbm, 173, rfl⟩
abbrev main_while0b_cst_37 : Ref sig .tc := ⟨.hbm, 174, rfl⟩
abbrev main_while0b_v125 : Ref sig .tc := ⟨.hbm, 175, rfl⟩
abbrev main_while0b_v126 : Ref sig .tc := ⟨.hbm, 176, rfl⟩
abbrev main_while0b_v127 : Ref sig .tc := ⟨.hbm, 177, rfl⟩
abbrev main_while0b_v128 : Ref sig .tc := ⟨.hbm, 178, rfl⟩
abbrev main_while0b_call0_v0 : Ref sig .tc := ⟨.hbm, 179, rfl⟩
abbrev main_while0b_v129 : Ref sig .tc := ⟨.hbm, 180, rfl⟩
abbrev main_while0b_c_38 : Ref sig .tc := ⟨.hbm, 181, rfl⟩
abbrev main_while0b_v130 : Ref sig .tc := ⟨.hbm, 182, rfl⟩

abbrev nD : Nat := 1
abbrev τ : Topo := Topo.v7x

variable {F : FTy → Type} [FloatOps F]

abbrev main_while0_count : Scf.Loop 32 := ⟨0#32, 6#32, 1#32⟩
-- ==== Proof.Block.lean ====
/-
  The kernel's block: what one grid point stores, as six layers on each of its two halves.

  `VState` is what the kernel carries of a half between layers, `vStep` one layer in the kernel's own operations,
  and `half_a` and `half_b` say that the two values the kernel stores are the sixth state's row times its scale.
-/
module

public import proofs.«01_k».proof.Proof.Gen.KernelIdeal.Frame

@[expose] public section

set_option maxRecDepth 16384

noncomputable section

namespace Collapse

open Idealize.ShloMosaic Cert.KernelIdeal Cert.KernelIdeal.Gen

variable {F : FTy → Type} [FloatOps F]

/-- Between layers: the unscaled rows, their squared lengths after scaling, and the scales. -/
@[ext] structure VState (F : FTy → Type) where
  y : FVec F S256x1024 .f32
  s : FVec F S256x1 .f32
  k : FVec F S256x1 .f32

/-- A literal in every row. -/
abbrev col (w : BitVec 32) : FVec F S256x1 .f32 := broadcast S256x1 (Scalar.ofBits .f32 w : F .f32)
/-- A literal in every row and anchor lane. -/
abbrev lanes (w : BitVec 32) : FVec F S256x8 .f32 := broadcast S256x8 (Scalar.ofBits .f32 w : F .f32)
/-- A column along the anchor lanes. -/
abbrev along8 (v : FVec F S256x1 .f32) : FVec F S256x8 .f32 := broadcastTo S256x8 v broadcasts_S256x1_S256x8
/-- A column along a row. -/
abbrev along (v : FVec F S256x1 .f32) : FVec F S256x1024 .f32 := broadcastTo S256x1024 v broadcasts_S256x1_S256x1024

/-- The rows' squared lengths. -/
def vSq (y : FVec F S256x1024 .f32) : FVec F S256x1 .f32 :=
  shapeCast S256x1 (multiReduction .add [1] S256 (mulf y y) 0x00000000#32 reduces_S256x1024_S256 (.inl rfl) rfl) shapeCasts_S256_S256x1

/-- The rows' scales from their squared lengths. -/
def vScale (s : FVec F S256x1 .f32) : FVec F S256x1 .f32 :=
  select (cmpf .ogt (sqrt s) (col 0x41200000#32)) (divf (col 0x41200000#32) (addf (sqrt s) (col 0x322BCC77#32))) (col 0x3F800000#32)

/-- The rows against the first weights and the anchors at once. -/
def vGram (w : FVec F S1152x1024 .f32) (y : FVec F S256x1024 .f32) : FVec F S256x1152 .f32 :=
  matmul dot_S256x1024_S1152x1024_S256x1152_1_1_0_0_n_n none y w (constant S256x1152 .f32 0x00000000#32)

/-- The rows' inner products with the anchors. -/
def vInner (w : FVec F S1152x1024 .f32) (y : FVec F S256x1024 .f32) (k : FVec F S256x1 .f32) : FVec F S256x8 .f32 :=
  mulf (along8 k) (extractStridedSlice S256x8 ![0, 1024] (vGram w y) slices_S256x1152_o0_1024_S256x8)

/-- The anchors' weights from the strengths, the squared lengths and the inner products. -/
def vWeight (t : FVec F S1x8 .f32) (s : FVec F S256x1 .f32) (d : FVec F S256x8 .f32) : FVec F S256x8 .f32 :=
  divf (mulf (broadcastTo S256x8 t broadcasts_S1x8_S256x8)
      (subf (lanes 0x3F800000#32) (mulf d (along8 (divf (col 0x3F800000#32) (maximumf (sqrt s) (col 0x2B8CBCCC#32)))))))
    (maximumf (sqrt (maximumf (addf (subf (along8 s) (mulf (lanes 0x40000000#32) d)) (lanes 0x3F800000#32)) (lanes 0x00000000#32)))
      (lanes 0x2B8CBCCC#32))

/-- The weights summed over the anchors. -/
def vTotal (c : FVec F S256x8 .f32) : FVec F S256x1 .f32 :=
  shapeCast S256x1 (multiReduction .add [1] S256 c 0x00000000#32 reduces_S256x8_S256 (.inl rfl) rfl) shapeCasts_S256_S256x1

/-- The rows after a layer, unscaled. -/
def vNext (w : FVec F S1152x1024 .f32) (w₂ : FVec F S1024x1024 .f32) (anc : FVec F S8x1024 .f32) (t : FVec F S1x8 .f32)
    (v : VState F) : FVec F S256x1024 .f32 :=
  addf (addf (mulf (along (mulf (subf (col 0x3F800000#32) (vTotal (vWeight t v.s (vInner w v.y v.k)))) v.k)) v.y)
      (matmul dot_S256x1024_S1024x1024_S256x1024_1_1_0_0_n_n none
        (tanh (mulf (along v.k) (extractStridedSlice S256x1024 ![0, 0] (vGram w v.y) slices_S256x1152_o0_0_S256x1024)))
        w₂ (constant S256x1024 .f32 0x00000000#32)))
    (matmul dot_S256x8_S8x1024_S256x1024_1_0_0_1_n_n none (vWeight t v.s (vInner w v.y v.k)) anc (constant S256x1024 .f32 0x00000000#32))

/-- The state a row block `y` leaves after its scales are taken. -/
def vAfter (y : FVec F S256x1024 .f32) : VState F :=
  ⟨y, mulf (vSq y) (mulf (vScale (vSq y)) (vScale (vSq y))), vScale (vSq y)⟩

/-- One layer. -/
def vStep (w : FVec F S1152x1024 .f32) (w₂ : FVec F S1024x1024 .f32) (anc : FVec F S8x1024 .f32) (t : FVec F S1x8 .f32)
    (v : VState F) : VState F :=
  vAfter (vNext w w₂ anc t v)

/-- The state the layers start from. -/
def vStart (y : FVec F S256x1024 .f32) : VState F := ⟨y, vSq y, col 0x3F800000#32⟩

/-- The rows a half stores. -/
def vOut (v : VState F) : FVec F S256x1024 .f32 := mulf (along v.k) v.y

section Chain

variable (x0 : Vec F S512x1024 .f32) (x1 : Vec F S1152x1024 .f32) (x2 : Vec F S1024x1024 .f32) (x3 : Vec F S8x1024 .f32)

/-- One layer at a grid point's blocks. -/
def bStep (v : VState F) : VState F :=
  vStep (k0_pay120 x0 x1 x2 x3) (View.ld x2 r0_2) (k0_pay121 x0 x1 x2 x3) (k0_pay122 x0 x1 x2 x3) v

theorem a1 : vAfter (k0_pay137 x0 x1 x2 x3) = bStep x0 x1 x2 x3 (vStart (k0_pay123 x0 x1 x2 x3)) := rfl
theorem a2 : vAfter (k0_pay147 x0 x1 x2 x3) = bStep x0 x1 x2 x3 (vAfter (k0_pay137 x0 x1 x2 x3)) := rfl
theorem a3 : vAfter (k0_pay161 x0 x1 x2 x3) = bStep x0 x1 x2 x3 (vAfter (k0_pay147 x0 x1 x2 x3)) := rfl
theorem a4 : vAfter (k0_pay173 x0 x1 x2 x3) = bStep x0 x1 x2 x3 (vAfter (k0_pay161 x0 x1 x2 x3)) := rfl
theorem a5 : vAfter (k0_pay190 x0 x1 x2 x3) = bStep x0 x1 x2 x3 (vAfter (k0_pay173 x0 x1 x2 x3)) := rfl
theorem b1 : vAfter (k0_pay138 x0 x1 x2 x3) = bStep x0 x1 x2 x3 (vStart (k0_pay124 x0 x1 x2 x3)) := rfl
theorem b2 : vAfter (k0_pay148 x0 x1 x2 x3) = bStep x0 x1 x2 x3 (vAfter (k0_pay138 x0 x1 x2 x3)) := rfl
theorem b3 : vAfter (k0_pay162 x0 x1 x2 x3) = bStep x0 x1 x2 x3 (vAfter (k0_pay148 x0 x1 x2 x3)) := rfl
theorem b4 : vAfter (k0_pay174 x0 x1 x2 x3) = bStep x0 x1 x2 x3 (vAfter (k0_pay162 x0 x1 x2 x3)) := rfl
theorem b5 : vAfter (k0_pay191 x0 x1 x2 x3) = bStep x0 x1 x2 x3 (vAfter (k0_pay174 x0 x1 x2 x3)) := rfl

/-- The first half's last layer: what the kernel stores is the sixth state's row times its scale. -/
theorem a6 :
    k0_pay1 (k0_pay113 (View.ld x2 r0_2) (k0_pay121 x0 x1 x2 x3) (k0_pay190 x0 x1 x2 x3) (k0_pay192 x0 x1 x2 x3) (k0_pay196 x0 x1 x2 x3) (k0_pay200 x0 x1 x2 x3) (k0_pay201 x0 x1 x2 x3))
        (k0_pay117 (View.ld x2 r0_2) (k0_pay121 x0 x1 x2 x3) (k0_pay190 x0 x1 x2 x3) (k0_pay192 x0 x1 x2 x3) (k0_pay196 x0 x1 x2 x3) (k0_pay200 x0 x1 x2 x3) (k0_pay201 x0 x1 x2 x3))
        (k0_pay118 (View.ld x2 r0_2) (k0_pay121 x0 x1 x2 x3) (k0_pay190 x0 x1 x2 x3) (k0_pay192 x0 x1 x2 x3) (k0_pay196 x0 x1 x2 x3) (k0_pay200 x0 x1 x2 x3) (k0_pay201 x0 x1 x2 x3))
        (k0_pay119 (F := F))
      = vOut (bStep x0 x1 x2 x3 (vAfter (k0_pay190 x0 x1 x2 x3))) := rfl
/-- The second half's last layer. -/
theorem b6 :
    k0_pay2 (k0_pay114 (View.ld x2 r0_2) (k0_pay121 x0 x1 x2 x3) (k0_pay122 x0 x1 x2 x3) (k0_pay191 x0 x1 x2 x3) (k0_pay193 x0 x1 x2 x3) (k0_pay197 x0 x1 x2 x3) (k0_pay202 x0 x1 x2 x3) (k0_pay203 x0 x1 x2 x3) (k0_pay204 x0 x1 x2 x3))
        (k0_pay116 (View.ld x2 r0_2) (k0_pay121 x0 x1 x2 x3) (k0_pay122 x0 x1 x2 x3) (k0_pay191 x0 x1 x2 x3) (k0_pay193 x0 x1 x2 x3) (k0_pay197 x0 x1 x2 x3) (k0_pay202 x0 x1 x2 x3) (k0_pay203 x0 x1 x2 x3) (k0_pay204 x0 x1 x2 x3))
      = vOut (bStep x0 x1 x2 x3 (vAfter (k0_pay191 x0 x1 x2 x3))) := rfl

/-- The rows a half stores, from the rows it loads. -/
def bHalf (y : FVec F S256x1024 .f32) : FVec F S256x1024 .f32 :=
  vOut ((bStep x0 x1 x2 x3)^[6] (vStart y))

/-- What a grid point stores: the second half's rows, then the first half's. -/
theorem out_eq :
    out0_4 x0 x1 x2 x3 = View.canon [⟨r0_5, bHalf x0 x1 x2 x3 (k0_pay124 x0 x1 x2 x3)⟩,
      ⟨r0_4, bHalf x0 x1 x2 x3 (k0_pay123 x0 x1 x2 x3)⟩] := by
  have ea := a6 x0 x1 x2 x3
  rw [a5, a4, a3, a2, a1] at ea
  have eb := b6 x0 x1 x2 x3
  rw [b5, b4, b3, b2, b1] at eb
  unfold out0_4
  rw [ea, eb]
  rfl

end Chain

end Collapse
-- ==== Proof.Layer.lean ====
/-
  One layer on one row, as extended reals.

  The kernel keeps a row as a triple: an unscaled row `y`, a scale `k` and the squared length `s` of the row
  `k * y`. The reference keeps the row `h` itself. `Held` says that a triple stands for a row, `held_next` says
  that the kernel's layer and the reference's layer keep a triple and a row in step, for EVERY row, infinite
  entries included.
-/
module

public import Idealize.ShloMosaic.Lib.IdealHost

@[expose] public section

set_option maxRecDepth 16384

noncomputable section

namespace Collapse

open Idealize.ShloMosaic
open scoped BigOperators

/-! ## The literals -/

/-- The floor `1e-12` of every norm. -/
abbrev floorLit : EReal := Ideal.ofBits .f32 0x2B8CBCCC#32
/-- The bound `10` on a row's norm. -/
abbrev capLit : EReal := Ideal.ofBits .f32 0x41200000#32
/-- The `1e-8` added to the norm before dividing by it. -/
abbrev padLit : EReal := Ideal.ofBits .f32 0x322BCC77#32
/-- The strength `0.1`. -/
abbrev strongLit : EReal := Ideal.ofBits .f32 0x3DCCCCCD#32
/-- The strength `0.05`. -/
abbrev weakLit : EReal := Ideal.ofBits .f32 0x3D4CCCCD#32
/-- One. -/
abbrev oneLit : EReal := Ideal.ofBits .f32 0x3F800000#32
/-- Two. -/
abbrev twoLit : EReal := Ideal.ofBits .f32 0x40000000#32
/-- Zero. -/
abbrev zeroLit : EReal := Ideal.ofBits .f32 0x00000000#32

/-- The floor as a real. -/
def floorR : ℝ := 9223372 * 2 ^ (-63 : ℤ)
/-- The strength `0.1` as a real. -/
def strongR : ℝ := 13421773 * 2 ^ (-27 : ℤ)
/-- The strength `0.05` as a real. -/
def weakR : ℝ := 13421773 * 2 ^ (-28 : ℤ)
/-- The added `1e-8` as a real. -/
def padR : ℝ := 11258999 * 2 ^ (-50 : ℤ)

theorem floorLit_eq : floorLit = ((floorR : ℝ) : EReal) := by
  unfold floorR; simp [Ideal.ofBits, Ideal.ieee, -EReal.coe_mul]
theorem strongLit_eq : strongLit = ((strongR : ℝ) : EReal) := by
  unfold strongR; simp [Ideal.ofBits, Ideal.ieee, -EReal.coe_mul]
theorem weakLit_eq : weakLit = ((weakR : ℝ) : EReal) := by
  unfold weakR; simp [Ideal.ofBits, Ideal.ieee, -EReal.coe_mul]
theorem padLit_eq : padLit = ((padR : ℝ) : EReal) := by
  unfold padR; simp [Ideal.ofBits, Ideal.ieee, -EReal.coe_mul]
theorem capLit_eq : capLit = ((10 : ℝ) : EReal) := by
  simp [Ideal.ofBits, Ideal.ieee, -EReal.coe_mul]; norm_num
theorem twoLit_eq : twoLit = ((2 : ℝ) : EReal) := by
  simp [Ideal.ofBits, Ideal.ieee, -EReal.coe_mul]; norm_num
theorem oneLit_eq : oneLit = ((1 : ℝ) : EReal) := by
  unfold oneLit; rw [Ideal.ofBits_one_f32]; norm_cast
theorem zeroLit_eq : zeroLit = ((0 : ℝ) : EReal) := by
  unfold zeroLit; rw [Ideal.ofBits_zero_f32]; norm_cast

theorem floorR_pos : 0 < floorR := by unfold floorR; positivity
theorem padR_pos : 0 < padR := by unfold padR; positivity
theorem floorR_lt_strongR : floorR < strongR := by unfold floorR strongR; norm_num
theorem floorR_lt_weakR : floorR < weakR := by unfold floorR weakR; norm_num

/-! ## The functions of one layer -/

/-- A row's squared length. -/
def sq {ι : Type} [Fintype ι] (h : ι → EReal) : EReal := ∑ j, h j * h j

/-- A row's length, at least the floor. -/
def len {ι : Type} [Fintype ι] (h : ι → EReal) : EReal := max (Ideal.sqrt (sq h)) floorLit

/-- The factor that brings a row of squared length `s` back under the cap. -/
def scale (s : EReal) : EReal :=
  if capLit < Ideal.sqrt s then Ideal.div capLit (Ideal.sqrt s + padLit) else oneLit

/-- The weight of an anchor of strength `t` at inner product `d`, for a row of squared length `s`. -/
def weight (t s d : EReal) : EReal :=
  Ideal.div (t * (oneLit - d * Ideal.div oneLit (max (Ideal.sqrt s) floorLit)))
    (max (Ideal.sqrt (max (s - twoLit * d + oneLit) zeroLit)) floorLit)

/-- The kernel's three anchor strengths in eight lanes. -/
def strength (i : Fin 8) : EReal := if i.val < 2 then strongLit else if i.val = 2 then weakLit else zeroLit

/-- The kernel's unscaled row after a layer: from the unscaled row `y`, the squared length `s` and the scale `k`,
with the weights `W₁` and `W₂` and the eight anchor rows `A`. -/
def kNext {ι κ : Type} [Fintype ι] [Fintype κ] (W₁ : κ → ι → EReal) (W₂ : ι → κ → EReal) (A : Fin 8 → ι → EReal)
    (y : ι → EReal) (s k : EReal) (j : ι) : EReal :=
  (oneLit - ∑ i, weight (strength i) s (k * ∑ l, y l * A i l)) * k * y j
    + ∑ p, Ideal.tanh (k * ∑ l, y l * W₁ p l) * W₂ j p
    + ∑ i, weight (strength i) s (k * ∑ l, y l * A i l) * A i j

/-- One anchor's pull on the row `h`. -/
def pull {ι : Type} [Fintype ι] (t : EReal) (a h : ι → EReal) (j : ι) : EReal :=
  t * (oneLit - ∑ l, Ideal.div (h l) (len h) * a l) * Ideal.div (h j - a j) (len fun l => h l - a l)

/-- The reference's row after a layer, before the cap. -/
def rMid {ι κ : Type} [Fintype ι] [Fintype κ] (W₁ : κ → ι → EReal) (b₁ : κ → EReal) (W₂ : ι → κ → EReal) (b₂ : ι → EReal)
    (a₀ a₁ a₂ : ι → EReal) (h : ι → EReal) (j : ι) : EReal :=
  h j + (∑ p, Ideal.tanh (∑ l, h l * W₁ p l + b₁ p) * W₂ j p + b₂ j)
    - (zeroLit + pull strongLit a₀ h j + pull strongLit a₁ h j + pull weakLit a₂ h j)

/-- The cap: a row longer than ten is scaled down. -/
def cap {ι : Type} [Fintype ι] (h : ι → EReal) (j : ι) : EReal :=
  if capLit < Ideal.sqrt (sq h) then h j * Ideal.div capLit (Ideal.sqrt (sq h) + padLit) else h j

/-- The reference's row after a layer. -/
def rNext {ι κ : Type} [Fintype ι] [Fintype κ] (W₁ : κ → ι → EReal) (b₁ : κ → EReal) (W₂ : ι → κ → EReal) (b₂ : ι → EReal)
    (a₀ a₁ a₂ : ι → EReal) (h : ι → EReal) : ι → EReal :=
  cap (rMid W₁ b₁ W₂ b₂ a₀ a₁ a₂ h)

/-! ## Squares, lengths and scales -/

variable {ι κ : Type} [Fintype ι] [Fintype κ]

theorem mul_self_nonneg' (x : EReal) : 0 ≤ x * x := by
  induction x using EReal.rec with
  | bot => simp
  | top => simp
  | coe r => rw [← EReal.coe_mul]; exact_mod_cast mul_self_nonneg r

theorem sq_nonneg' (h : ι → EReal) : 0 ≤ sq h := Finset.sum_nonneg fun j _ => mul_self_nonneg' (h j)

/-- A row is real, or its squared length is `⊤`. -/
theorem real_or_top (h : ι → EReal) :
    (∃ x : ι → ℝ, h = fun j => (x j : EReal)) ∨ (∃ j, h j = ⊤ ∨ h j = ⊥) := by
  by_cases H : ∃ j, h j = ⊤ ∨ h j = ⊥
  · exact .inr H
  · push Not at H
    exact .inl ⟨fun j => (h j).toReal, funext fun j => (EReal.coe_toReal (H j).1 (H j).2).symm⟩

/-- A row with an infinite entry has squared length `⊤`. -/
theorem sq_top {h : ι → EReal} (H : ∃ j, h j = ⊤ ∨ h j = ⊥) : sq h = ⊤ := by
  obtain ⟨j, hj⟩ := H
  have h1 : h j * h j = ⊤ := by rcases hj with e | e <;> rw [e] <;> simp
  have h2 : h j * h j ≤ sq h :=
    Finset.single_le_sum (f := fun j => h j * h j) (fun i _ => mul_self_nonneg' (h i)) (Finset.mem_univ j)
  rw [h1] at h2
  exact top_le_iff.mp h2

/-- A real that is not negative distributes over a sum of extended reals. -/
theorem coe_mul_sum {r : ℝ} (hr : 0 ≤ r) {α : Type} (s : Finset α) (f : α → EReal) :
    (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- The coercion of a real sum. -/
theorem coe_sum' {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals. -/
theorem coe_max' (a b : ℝ) : ((max a b : ℝ) : EReal) = max (a : EReal) (b : EReal) :=
  EReal.coe_strictMono.monotone.map_max

/-- The root of a real that is not negative. -/
theorem sqrt_coe' {r : ℝ} (hr : 0 ≤ r) : Ideal.sqrt (r : EReal) = (Real.sqrt r : EReal) := by
  rw [Ideal.sqrt_coe, if_neg (not_lt.mpr hr)]

/-- The quotient of two reals, the divisor not zero. -/
theorem div_coe' (x : ℝ) {y : ℝ} (hy : y ≠ 0) : Ideal.div (x : EReal) (y : EReal) = ((x / y : ℝ) : EReal) := by
  rw [Ideal.div_coe hy, ← EReal.coe_mul]; congr 1; ring

/-- Anything divided by `⊤` is zero. -/
theorem div_top (x : EReal) : Ideal.div x ⊤ = 0 := by
  unfold Ideal.div; rw [if_neg (by simp)]; simp

/-- A row times the scale of its squared length is the row capped; the scale is a real that is not negative. -/
theorem scale_spec (h : ι → EReal) :
    ∃ r : ℝ, 0 ≤ r ∧ scale (sq h) = (r : EReal) ∧ ∀ j, cap h j = (r : EReal) * h j := by
  unfold scale cap
  by_cases H : capLit < Ideal.sqrt (sq h)
  · simp only [if_pos H]
    have hs := sq_nonneg' h
    have key : ∃ r : ℝ, 0 ≤ r ∧ Ideal.div capLit (Ideal.sqrt (sq h) + padLit) = (r : EReal) := by
      generalize sq h = s at hs
      induction s using EReal.rec with
      | bot => simp at hs
      | top => exact ⟨0, le_rfl, by rw [Ideal.sqrt_top, padLit_eq, EReal.top_add_coe, div_top]; simp⟩
      | coe s =>
        have hs' : 0 ≤ s := by exact_mod_cast hs
        have hp : 0 < Real.sqrt s + padR := add_pos_of_nonneg_of_pos (Real.sqrt_nonneg s) padR_pos
        refine ⟨10 / (Real.sqrt s + padR), by positivity, ?_⟩
        rw [sqrt_coe' hs', padLit_eq, capLit_eq, ← EReal.coe_add, div_coe' _ hp.ne']
    obtain ⟨r, h0, e⟩ := key
    exact ⟨r, h0, e, fun j => by rw [e, mul_comm]⟩
  · simp only [if_neg H]
    exact ⟨1, zero_le_one, oneLit_eq, fun j => by simp⟩

/-- A row with an infinite entry is capped to zero. -/
theorem cap_top {h : ι → EReal} (H : ∃ j, h j = ⊤ ∨ h j = ⊥) (j : ι) : cap h j = 0 := by
  unfold cap
  rw [sq_top H, Ideal.sqrt_top, padLit_eq, EReal.top_add_coe, div_top, if_pos (by rw [capLit_eq]; exact EReal.coe_lt_top _),
    mul_zero]

/-- The squared length of a row scaled by a real. -/
theorem sq_mul {r : ℝ} (h : ι → EReal) : sq (fun j => (r : EReal) * h j) = sq h * ((r : EReal) * (r : EReal)) := by
  unfold sq
  rw [mul_comm, ← EReal.coe_mul, coe_mul_sum (mul_self_nonneg r)]
  refine Finset.sum_congr rfl fun j _ => ?_
  rw [EReal.coe_mul, mul_mul_mul_comm]

/-! ## The weights -/

/-- The length of a real row. -/
theorem len_coe (x : ι → ℝ) : len (fun j => (x j : EReal)) = ((max (Real.sqrt (∑ j, x j * x j)) floorR : ℝ) : EReal) := by
  unfold len sq
  simp only [← EReal.coe_mul, ← coe_sum']
  rw [sqrt_coe' (Finset.sum_nonneg fun j _ => mul_self_nonneg (x j)), floorLit_eq, coe_max']

theorem sq_coe (x : ι → ℝ) : sq (fun j => (x j : EReal)) = ((∑ j, x j * x j : ℝ) : EReal) := by
  unfold sq
  simp only [← EReal.coe_mul, ← coe_sum']

theorem max_floor_ne (r : ℝ) : max r floorR ≠ 0 := (lt_max_of_lt_right floorR_pos).ne'

/-- The weight as a real. -/
def weightR (t s d : ℝ) : ℝ :=
  t * (1 - d * (1 / max (Real.sqrt s) floorR)) / max (Real.sqrt (max (s - 2 * d + 1) 0)) floorR

theorem weight_coe (t d : ℝ) {s : ℝ} (hs : 0 ≤ s) : weight (t : EReal) (s : EReal) (d : EReal) = ((weightR t s d : ℝ) : EReal) := by
  unfold weight weightR
  rw [sqrt_coe' hs, floorLit_eq, ← coe_max', oneLit_eq, div_coe' _ (max_floor_ne _), twoLit_eq, zeroLit_eq]
  simp only [← EReal.coe_mul, ← EReal.coe_sub, ← EReal.coe_add, ← coe_max']
  rw [sqrt_coe' (le_max_right _ _), ← coe_max', div_coe' _ (max_floor_ne _)]

/-- A strength of zero weighs zero at a real row. -/
theorem weightR_zero (s d : ℝ) : weightR 0 s d = 0 := by unfold weightR; simp

/-- At an infinite squared length, a strength that is zero or more than the floor weighs zero or more than one. -/
theorem weight_top {t : ℝ} (ht : t = 0 ∨ floorR < t) (d : EReal) :
    ∃ c : ℝ, weight (t : EReal) ⊤ d = (c : EReal) ∧ (c = 0 ∨ 1 < c) := by
  unfold weight
  have e1 : max (Ideal.sqrt ⊤) floorLit = ⊤ := by rw [Ideal.sqrt_top]; simp
  rw [e1, div_top, mul_zero, sub_zero, oneLit_eq, ← EReal.coe_mul, mul_one]
  have e2 : max (⊤ - twoLit * d + ((1 : ℝ) : EReal)) zeroLit = ⊤ ∨ max (⊤ - twoLit * d + ((1 : ℝ) : EReal)) zeroLit = 0 := by
    rw [twoLit_eq, zeroLit_eq, EReal.coe_zero]
    induction d using EReal.rec with
    | bot => left; rw [EReal.coe_mul_bot_of_pos (by norm_num), EReal.sub_bot (by simp), EReal.top_add_coe]; simp
    | top => right; rw [EReal.coe_mul_top_of_pos (by norm_num)]; simp
    | coe d => left; rw [← EReal.coe_mul, EReal.top_sub_coe, EReal.top_add_coe]; simp
  rcases e2 with e | e
  · rw [e, Ideal.sqrt_top, max_eq_left le_top, div_top]
    exact ⟨0, by simp, .inl rfl⟩
  · rw [e, show (0 : EReal) = ((0 : ℝ) : EReal) by norm_cast, sqrt_coe' le_rfl, floorLit_eq, ← coe_max', div_coe' _ (max_floor_ne _)]
    refine ⟨_, rfl, ?_⟩
    rw [Real.sqrt_zero, max_eq_right floorR_pos.le]
    rcases ht with h | h
    · left; rw [h, zero_div]
    · right; rwa [lt_div_iff₀ floorR_pos, one_mul]

/-- The strengths as reals: zero, or more than the floor. -/
theorem strength_coe (i : Fin 8) : ∃ t : ℝ, strength i = (t : EReal) ∧ (t = 0 ∨ floorR < t) := by
  unfold strength
  split_ifs
  · exact ⟨_, strongLit_eq, .inr floorR_lt_strongR⟩
  · exact ⟨_, weakLit_eq, .inr floorR_lt_weakR⟩
  · exact ⟨0, zeroLit_eq, .inl rfl⟩

/-! ## The two layers in step -/

/-- The eight anchor rows `A` are the real rows `a`, of which the first three have length one. -/
structure Anchors (A : Fin 8 → ι → EReal) (a : Fin 8 → ι → ℝ) : Prop where
  real : A = fun i l => (a i l : EReal)
  one : ∀ i : Fin 8, i.val < 3 → ∑ l, a i l * a i l = 1

/-- The triple of an unscaled row `y`, a squared length `s` and a scale `k` stands for the row `h`. -/
structure Held (y : ι → EReal) (s k : EReal) (h : ι → EReal) : Prop where
  row : ∀ j, h j = k * y j
  len : s = sq h
  scale : ∃ r : ℝ, 0 ≤ r ∧ k = (r : EReal)

/-- The scale multiplied into the row: the kernel's layer is that of the row itself. -/
theorem kNext_scaled (W₁ : κ → ι → EReal) (W₂ : ι → κ → EReal) (A : Fin 8 → ι → EReal) {y h : ι → EReal} {s k : EReal}
    (H : Held y s k h) (j : ι) :
    kNext W₁ W₂ A y s k j =
      (oneLit - ∑ i, weight (strength i) (sq h) (∑ l, h l * A i l)) * h j
        + ∑ p, Ideal.tanh (∑ l, h l * W₁ p l) * W₂ j p
        + ∑ i, weight (strength i) (sq h) (∑ l, h l * A i l) * A i j := by
  obtain ⟨r, hr, hk⟩ := H.scale
  have e : ∀ w : ι → EReal, k * ∑ l, y l * w l = ∑ l, h l * w l := fun w => by
    rw [hk, coe_mul_sum hr, ← hk]
    exact Finset.sum_congr rfl fun l _ => by rw [H.row l, mul_assoc]
  unfold kNext
  simp only [e, H.len]
  rw [mul_assoc, ← H.row j]

/-- One anchor's pull on a real row. -/
theorem pull_coe (t : ℝ) (a x : ι → ℝ) (ha : ∑ l, a l * a l = 1) (j : ι) :
    pull (t : EReal) (fun l => (a l : EReal)) (fun l => (x l : EReal)) j
      = ((weightR t (∑ l, x l * x l) (∑ l, x l * a l) * (x j - a j) : ℝ) : EReal) := by
  have hs : ∑ l, (x l - a l) * (x l - a l) = ∑ l, x l * x l - 2 * ∑ l, x l * a l + 1 := by
    rw [← ha, Finset.mul_sum, ← Finset.sum_sub_distrib, ← Finset.sum_add_distrib]
    exact Finset.sum_congr rfl fun l _ => by ring
  have h0 : 0 ≤ ∑ l, x l * x l - 2 * ∑ l, x l * a l + 1 := by
    rw [← hs]; exact Finset.sum_nonneg fun l _ => mul_self_nonneg _
  have hd : ∀ M : ℝ, ∑ l, x l / M * a l = (∑ l, x l * a l) * (1 / M) := fun M => by
    rw [Finset.sum_mul]; exact Finset.sum_congr rfl fun l _ => by ring
  unfold pull
  simp only [← EReal.coe_sub]
  rw [len_coe, len_coe (fun l => x l - a l), div_coe' _ (max_floor_ne _), oneLit_eq]
  simp only [div_coe' _ (max_floor_ne _), ← EReal.coe_mul, ← coe_sum', ← EReal.coe_sub]
  rw [hs, hd]
  unfold weightR
  rw [max_eq_left h0]
  congr 1
  ring

/-- The same extended real between two ways of writing one real sum. -/
theorem coe_shift {u v x f : ℝ} (e : u + v = x - f) (δ : EReal) : (u : EReal) + δ + (v : EReal) = (x : EReal) + δ - (f : EReal) := by
  rw [add_right_comm, ← EReal.coe_add, e, EReal.coe_sub, sub_eq_add_neg, add_right_comm, ← sub_eq_add_neg]

/-- On a real row the two layers agree before the cap. -/
theorem mid_real (W₁ : κ → ι → EReal) (W₂ : ι → κ → EReal) {A : Fin 8 → ι → EReal} {a : Fin 8 → ι → ℝ} (hA : Anchors A a)
    {y h : ι → EReal} {s k : EReal} (H : Held y s k h) {x : ι → ℝ} (hx : h = fun j => (x j : EReal)) (j : ι) :
    kNext W₁ W₂ A y s k j = rMid W₁ (fun _ => 0) W₂ (fun _ => 0) (A 0) (A 1) (A 2) h j := by
  rw [kNext_scaled W₁ W₂ A H]
  unfold rMid
  simp only [add_zero]
  generalize (∑ p, Ideal.tanh (∑ l, h l * W₁ p l) * W₂ j p) = δ
  rw [hA.real, hx, sq_coe]
  simp only
  rw [strongLit_eq, weakLit_eq, pull_coe _ _ _ (hA.one 0 (by decide)), pull_coe _ _ _ (hA.one 1 (by decide)),
    pull_coe _ _ _ (hA.one 2 (by decide)), zeroLit_eq, oneLit_eq]
  simp only [← EReal.coe_mul, ← coe_sum', ← EReal.coe_add]
  have hs : 0 ≤ ∑ l, x l * x l := Finset.sum_nonneg fun l _ => mul_self_nonneg _
  have w : ∀ i : Fin 8, weight (strength i) ((∑ l, x l * x l : ℝ) : EReal) ((∑ l, x l * a i l : ℝ) : EReal)
      = ((weightR (if i.val < 2 then strongR else if i.val = 2 then weakR else 0) (∑ l, x l * x l) (∑ l, x l * a i l) : ℝ) : EReal) := by
    intro i
    rw [← weight_coe _ _ hs]
    unfold strength
    split_ifs
    · rw [strongLit_eq]
    · rw [weakLit_eq]
    · rw [zeroLit_eq]
  simp only [w, ← EReal.coe_mul, ← coe_sum', ← EReal.coe_sub]
  refine coe_shift ?_ δ
  have z : ∀ i : Fin 8, ¬ i.val < 2 → ¬ i.val = 2 →
      weightR (if i.val < 2 then strongR else if i.val = 2 then weakR else 0) (∑ l, x l * x l) (∑ l, x l * a i l) = 0 := by
    intro i h1 h2
    rw [if_neg h1, if_neg h2, weightR_zero]
  rw [Fin.sum_univ_eight, Fin.sum_univ_eight, z 3 (by decide) (by decide), z 4 (by decide) (by decide), z 5 (by decide) (by decide),
    z 6 (by decide) (by decide), z 7 (by decide) (by decide)]
  rw [if_pos (show (0 : Fin 8).val < 2 by decide), if_pos (show (1 : Fin 8).val < 2 by decide),
    if_neg (show ¬ (2 : Fin 8).val < 2 by decide), if_pos (show (2 : Fin 8).val = 2 by decide)]
  ring

/-- An infinite extended real stays infinite when anything is added to it. -/
theorem add_inf {u : EReal} (hu : u = ⊤ ∨ u = ⊥) (v : EReal) : u + v = ⊤ ∨ u + v = ⊥ := by
  rcases hu with e | e
  · rw [e]
    induction v using EReal.rec with
    | bot => right; simp
    | top => left; simp
    | coe r => left; simp
  · rw [e]; right; simp

/-- A real that is not zero times an infinite extended real is infinite. -/
theorem coe_mul_inf {r : ℝ} (hr : r ≠ 0) {u : EReal} (hu : u = ⊤ ∨ u = ⊥) : (r : EReal) * u = ⊤ ∨ (r : EReal) * u = ⊥ := by
  rcases lt_or_gt_of_ne hr with h | h <;> rcases hu with e | e <;> rw [e]
  · right; exact EReal.coe_mul_top_of_neg h
  · left; exact EReal.coe_mul_bot_of_neg h
  · left; exact EReal.coe_mul_top_of_pos h
  · right; exact EReal.coe_mul_bot_of_pos h

/-- One anchor's pull on a row with an infinite entry is zero. -/
theorem pull_top (t : EReal) (a : ι → ℝ) {h : ι → EReal} (H : ∃ j, h j = ⊤ ∨ h j = ⊥) (j : ι) :
    pull t (fun l => (a l : EReal)) h j = 0 := by
  have e : len (fun l => h l - (a l : EReal)) = ⊤ := by
    unfold len
    rw [sq_top, Ideal.sqrt_top, max_eq_left le_top]
    obtain ⟨j, hj⟩ := H
    exact ⟨j, by rw [sub_eq_add_neg]; exact add_inf hj _⟩
  unfold pull
  rw [e, div_top, mul_zero]

/-- On a row with an infinite entry both layers leave an infinite entry before the cap. -/
theorem mid_top (W₁ : κ → ι → EReal) (W₂ : ι → κ → EReal) {A : Fin 8 → ι → EReal} {a : Fin 8 → ι → ℝ} (hA : Anchors A a)
    {y h : ι → EReal} {s k : EReal} (H : Held y s k h) {j : ι} (hj : h j = ⊤ ∨ h j = ⊥) :
    (kNext W₁ W₂ A y s k j = ⊤ ∨ kNext W₁ W₂ A y s k j = ⊥) ∧
      (rMid W₁ (fun _ => 0) W₂ (fun _ => 0) (A 0) (A 1) (A 2) h j = ⊤
        ∨ rMid W₁ (fun _ => 0) W₂ (fun _ => 0) (A 0) (A 1) (A 2) h j = ⊥) := by
  constructor
  · rw [kNext_scaled W₁ W₂ A H, sq_top ⟨j, hj⟩]
    have w : ∀ i : Fin 8, ∃ c : ℝ, weight (strength i) ⊤ (∑ l, h l * A i l) = (c : EReal) ∧ (c = 0 ∨ 1 < c) := fun i => by
      obtain ⟨t, e, ht⟩ := strength_coe i
      rw [e]; exact weight_top ht _
    choose c hc hc' using w
    simp only [hc]
    rw [← coe_sum', oneLit_eq, ← EReal.coe_sub, add_assoc]
    refine add_inf (coe_mul_inf ?_ hj) _
    have nn : ∀ i, 0 ≤ c i := fun i => by rcases hc' i with e | e <;> linarith
    by_cases all : ∀ i, c i = 0
    · simp [all]
    · push Not at all
      obtain ⟨i, hi⟩ := all
      have h1 : 1 < c i := (hc' i).resolve_left hi
      have h2 : c i ≤ ∑ i, c i := Finset.single_le_sum (f := c) (fun i _ => nn i) (Finset.mem_univ i)
      intro e; linarith
  · unfold rMid
    rw [hA.real, pull_top _ _ ⟨j, hj⟩, pull_top _ _ ⟨j, hj⟩, pull_top _ _ ⟨j, hj⟩, sub_eq_add_neg, add_assoc]
    exact add_inf hj _

/-- The new row capped, on both sides. -/
theorem cap_next (W₁ : κ → ι → EReal) (W₂ : ι → κ → EReal) {A : Fin 8 → ι → EReal} {a : Fin 8 → ι → ℝ} (hA : Anchors A a)
    {y h : ι → EReal} {s k : EReal} (H : Held y s k h) :
    rNext W₁ (fun _ => 0) W₂ (fun _ => 0) (A 0) (A 1) (A 2) h = cap (kNext W₁ W₂ A y s k) := by
  unfold rNext
  rcases real_or_top h with ⟨x, hx⟩ | ⟨j, hj⟩
  · rw [show kNext W₁ W₂ A y s k = rMid W₁ (fun _ => 0) W₂ (fun _ => 0) (A 0) (A 1) (A 2) h from
      funext fun j => mid_real W₁ W₂ hA H hx j]
  · obtain ⟨e1, e2⟩ := mid_top W₁ W₂ hA H hj
    exact funext fun i => (cap_top ⟨j, e2⟩ i).trans (cap_top ⟨j, e1⟩ i).symm

/-- The kernel's layer and the reference's keep a triple and a row in step. -/
theorem held_next (W₁ : κ → ι → EReal) (W₂ : ι → κ → EReal) {A : Fin 8 → ι → EReal} {a : Fin 8 → ι → ℝ} (hA : Anchors A a)
    {y h : ι → EReal} {s k : EReal} (H : Held y s k h) :
    Held (kNext W₁ W₂ A y s k)
      (sq (kNext W₁ W₂ A y s k) * (scale (sq (kNext W₁ W₂ A y s k)) * scale (sq (kNext W₁ W₂ A y s k))))
      (scale (sq (kNext W₁ W₂ A y s k)))
      (rNext W₁ (fun _ => 0) W₂ (fun _ => 0) (A 0) (A 1) (A 2) h) := by
  rw [cap_next W₁ W₂ hA H]
  obtain ⟨r, hr, e, hc⟩ := scale_spec (kNext W₁ W₂ A y s k)
  refine ⟨fun j => by rw [e, hc], ?_, r, hr, e⟩
  rw [show cap (kNext W₁ W₂ A y s k) = fun j => (r : EReal) * kNext W₁ W₂ A y s k j from funext hc, sq_mul, e]

/-- The triple the kernel starts from stands for the row it is given. -/
theorem held_start (h : ι → EReal) : Held h (sq h) oneLit h :=
  ⟨fun j => by rw [oneLit_eq]; simp, rfl, 1, zero_le_one, oneLit_eq⟩

end Collapse
-- ==== Proof.Rows.lean ====
/-
  One layer of the kernel read row by row at the ideal values.

  A row of the state after `vStep` depends on that row of the state before it only, and is `kNext`, its squared
  length and its scale.
-/
module

public import proofs.«01_k».proof.Proof.Block
public import proofs.«01_k».proof.Proof.Layer
public import Idealize.ShloMosaic.Lib.MatmulPlain
public import Idealize.ShloMosaic.Lib.ValueIdx
public import Idealize.ShloMosaic.Lib.Pipeline.Value

@[expose] public section

set_option maxRecDepth 16384

noncomputable section

namespace Collapse

open Idealize.ShloMosaic Idealize.ShloMosaic.ValueIdx Cert.KernelIdeal Cert.KernelIdeal.Gen
open scoped BigOperators

/-! ## The operations at a row -/

theorem along_apply (v : FVec Ideal S256x1 .f32) (r : Fin 256) (j : Fin 1024) : along v (ix2 r j) = v (ix2 r 0) :=
  broadcastTo_apply v _ _ _ fun a => by match a with | ⟨0, _⟩ => rfl | ⟨1, _⟩ => rfl

theorem along8_apply (v : FVec Ideal S256x1 .f32) (r : Fin 256) (i : Fin 8) : along8 v (ix2 r i) = v (ix2 r 0) :=
  broadcastTo_apply v _ _ _ fun a => by match a with | ⟨0, _⟩ => rfl | ⟨1, _⟩ => rfl

theorem col_of_row (v : FVec Ideal S256 .f32) (r : Fin 256) : shapeCast S256x1 v shapeCasts_S256_S256x1 (ix2 r 0) = v (ix1 r) :=
  shapeCast_apply v _ _ _ (by
    rw [Shape.rowMajor_val_one, Shape.rowMajor_val_two]
    show r.val = r.val * 1 + 0
    omega)

theorem vSq_apply (y : FVec Ideal S256x1024 .f32) (r : Fin 256) : vSq y (ix2 r 0) = sq fun l => y (ix2 r l) := by
  unfold vSq sq
  refine (col_of_row _ _).trans ((Ideal.multiReduction_add_single _ _ _ _ _ _).trans ?_)
  refine Finset.sum_congr rfl fun l _ => ?_
  have e : reduces_S256x1024_S256.lift (ix1 r) l = ix2 r l := by
    funext a; match a with | ⟨0, _⟩ => rfl | ⟨1, _⟩ => rfl
  rw [mulf_apply, e]; rfl

theorem vTotal_apply (c : FVec Ideal S256x8 .f32) (r : Fin 256) : vTotal c (ix2 r 0) = ∑ i : Fin 8, c (ix2 r i) := by
  unfold vTotal
  refine (col_of_row _ _).trans ((Ideal.multiReduction_add_single _ _ _ _ _ _).trans ?_)
  refine Finset.sum_congr rfl fun l _ => ?_
  have e : reduces_S256x8_S256.lift (ix1 r) l = ix2 r l := by
    funext a; match a with | ⟨0, _⟩ => rfl | ⟨1, _⟩ => rfl
  rw [e]; rfl

theorem vScale_apply (s : FVec Ideal S256x1 .f32) (i : S256x1.Idx) : vScale s i = scale (s i) := by
  show Scalar.select (BitVec.ofBool (decide (capLit < Ideal.sqrt (s i)))) _ _ = _
  unfold scale
  by_cases h : capLit < Ideal.sqrt (s i)
  · rw [if_pos h, decide_eq_true h]; rfl
  · rw [if_neg h, decide_eq_false h]; rfl

theorem vGram_apply (w : FVec Ideal S1152x1024 .f32) (y : FVec Ideal S256x1024 .f32) (r : Fin 256) (p : Fin 1152) :
    vGram w y (ix2 r p) = ∑ l : Fin 1024, y (ix2 r l) * w (ix2 p l) := by
  refine (Ideal.matmul_transposedRhs_apply (M := 256) (K := 1024) (N := 1152) none y w (constant S256x1152 .f32 0x00000000#32) r p).trans ?_
  rw [constant_apply, Ideal.ofBits_zero_f32, zero_add]

theorem vInner_apply (w : FVec Ideal S1152x1024 .f32) (y : FVec Ideal S256x1024 .f32) (k : FVec Ideal S256x1 .f32)
    (r : Fin 256) (i : Fin 8) :
    vInner w y k (ix2 r i) = k (ix2 r 0) * ∑ l : Fin 1024, y (ix2 r l) * w (ix2 (⟨1024 + i.val, by omega⟩ : Fin 1152) l) := by
  unfold vInner
  rw [mulf_apply, along8_apply, ← vGram_apply]
  congr 1
  exact extractStridedSlice_apply _ _ _ _ _ fun a => by
    match a with
    | ⟨0, _⟩ => show r.val = 0 + r.val; omega
    | ⟨1, _⟩ => rfl

theorem vWeight_apply (t : FVec Ideal S1x8 .f32) (s : FVec Ideal S256x1 .f32) (d : FVec Ideal S256x8 .f32) (r : Fin 256) (i : Fin 8) :
    vWeight t s d (ix2 r i) = weight (t (ix2 0 i)) (s (ix2 r 0)) (d (ix2 r i)) := by
  have et : broadcastTo S256x8 t broadcasts_S1x8_S256x8 (ix2 r i) = t (ix2 0 i) :=
    broadcastTo_apply t _ _ _ fun a => by match a with | ⟨0, _⟩ => rfl | ⟨1, _⟩ => rfl
  show Ideal.div (broadcastTo S256x8 t broadcasts_S1x8_S256x8 (ix2 r i)
      * (oneLit - d (ix2 r i) * along8 (divf (col 0x3F800000#32) (maximumf (sqrt s) (col 0x2B8CBCCC#32))) (ix2 r i)))
    (max (Ideal.sqrt (max (along8 s (ix2 r i) - twoLit * d (ix2 r i) + oneLit) zeroLit)) floorLit) = _
  rw [et, along8_apply, along8_apply]
  rfl

/-! ## The layer at a row -/

/-- What the kernel reads besides the rows, at the ideal values: the first weights `W₁` with the anchors `A` below them,
the second weights `W₂`, the anchors again, and the strengths. -/
structure Reads (w : FVec Ideal S1152x1024 .f32) (w₂ : FVec Ideal S1024x1024 .f32) (anc : FVec Ideal S8x1024 .f32)
    (t : FVec Ideal S1x8 .f32) (W₁ W₂ : Fin 1024 → Fin 1024 → EReal) (A : Fin 8 → Fin 1024 → EReal) : Prop where
  first : ∀ p l : Fin 1024, w (ix2 (⟨p.val, by omega⟩ : Fin 1152) l) = W₁ p l
  below : ∀ (i : Fin 8) (l : Fin 1024), w (ix2 (⟨1024 + i.val, by omega⟩ : Fin 1152) l) = A i l
  second : ∀ j p : Fin 1024, w₂ (ix2 j p) = W₂ j p
  anchors : ∀ (i : Fin 8) (l : Fin 1024), anc (ix2 i l) = A i l
  strengths : ∀ i : Fin 8, t (ix2 0 i) = strength i

variable {w : FVec Ideal S1152x1024 .f32} {w₂ : FVec Ideal S1024x1024 .f32} {anc : FVec Ideal S8x1024 .f32}
  {t : FVec Ideal S1x8 .f32} {W₁ W₂ : Fin 1024 → Fin 1024 → EReal} {A : Fin 8 → Fin 1024 → EReal}

theorem hidden_apply (R : Reads w w₂ anc t W₁ W₂ A) (v : VState Ideal) (r : Fin 256) (p : Fin 1024) :
    tanh (mulf (along v.k) (extractStridedSlice S256x1024 ![0, 0] (vGram w v.y) slices_S256x1152_o0_0_S256x1024)) (ix2 r p)
      = Ideal.tanh (v.k (ix2 r 0) * ∑ l, v.y (ix2 r l) * W₁ p l) := by
  have e : extractStridedSlice S256x1024 ![0, 0] (vGram w v.y) slices_S256x1152_o0_0_S256x1024 (ix2 r p)
      = vGram w v.y (ix2 r (⟨p.val, by omega⟩ : Fin 1152)) :=
    extractStridedSlice_apply _ _ _ _ _ fun a => by
      match a with
      | ⟨0, _⟩ => show r.val = 0 + r.val; omega
      | ⟨1, _⟩ => show p.val = 0 + p.val; omega
  show Ideal.tanh (along v.k (ix2 r p) * extractStridedSlice S256x1024 ![0, 0] (vGram w v.y) _ (ix2 r p)) = _
  rw [e, along_apply, vGram_apply]
  simp only [R.first]

theorem weights_apply (R : Reads w w₂ anc t W₁ W₂ A) (v : VState Ideal) (r : Fin 256) (i : Fin 8) :
    vWeight t v.s (vInner w v.y v.k) (ix2 r i)
      = weight (strength i) (v.s (ix2 r 0)) (v.k (ix2 r 0) * ∑ l, v.y (ix2 r l) * A i l) := by
  rw [vWeight_apply, vInner_apply, R.strengths]
  simp only [R.below]

theorem vNext_apply (R : Reads w w₂ anc t W₁ W₂ A) (v : VState Ideal) (r : Fin 256) (j : Fin 1024) :
    vNext w w₂ anc t v (ix2 r j)
      = kNext W₁ W₂ A (fun l => v.y (ix2 r l)) (v.s (ix2 r 0)) (v.k (ix2 r 0)) j := by
  unfold vNext kNext
  rw [addf_apply, addf_apply, mulf_apply, along_apply, mulf_apply, subf_apply, vTotal_apply]
  congr 1
  · congr 1
    · simp only [weights_apply R]; rfl
    · refine (Ideal.matmul_transposedRhs_apply (M := 256) (K := 1024) (N := 1024) none _ w₂ (constant S256x1024 .f32 0x00000000#32) r j).trans ?_
      rw [constant_apply, Ideal.ofBits_zero_f32, zero_add]
      exact Finset.sum_congr rfl fun p _ => by rw [hidden_apply R, R.second]
  · refine (Ideal.matmul_plain_apply (M := 256) (K := 8) (N := 1024) none _ anc (constant S256x1024 .f32 0x00000000#32) r j).trans ?_
    rw [constant_apply, Ideal.ofBits_zero_f32, zero_add]
    exact Finset.sum_congr rfl fun i _ => by rw [weights_apply R, R.anchors]

/-- Row `r` of a state stands for the row `h`. -/
def HeldAt (v : VState Ideal) (r : Fin 256) (h : Fin 1024 → EReal) : Prop :=
  Held (fun l => v.y (ix2 r l)) (v.s (ix2 r 0)) (v.k (ix2 r 0)) h

theorem heldAt_start (y : FVec Ideal S256x1024 .f32) (r : Fin 256) : HeldAt (vStart y) r fun l => y (ix2 r l) := by
  show Held (fun l => y (ix2 r l)) (vSq y (ix2 r 0)) oneLit _
  rw [vSq_apply]
  exact held_start _

/-- A layer of the kernel does to the rows a state stands for what a layer of the reference does. -/
theorem heldAt_step (R : Reads w w₂ anc t W₁ W₂ A) {a : Fin 8 → Fin 1024 → ℝ} (hA : Anchors A a) {v : VState Ideal}
    {r : Fin 256} {h : Fin 1024 → EReal} (H : HeldAt v r h) :
    HeldAt (vStep w w₂ anc t v) r (rNext W₁ (fun _ => 0) W₂ (fun _ => 0) (A 0) (A 1) (A 2) h) := by
  have e : (fun l => vNext w w₂ anc t v (ix2 r l)) = kNext W₁ W₂ A (fun l => v.y (ix2 r l)) (v.s (ix2 r 0)) (v.k (ix2 r 0)) :=
    funext fun l => vNext_apply R v r l
  have := held_next W₁ W₂ hA H
  rw [← e] at this
  unfold HeldAt vStep vAfter
  simp only [mulf_apply, vScale_apply, vSq_apply]
  exact this

/-- What a half stores is the rows its state stands for. -/
theorem vOut_apply {v : VState Ideal} {r : Fin 256} {h : Fin 1024 → EReal} (H : HeldAt v r h) (j : Fin 1024) :
    vOut v (ix2 r j) = h j := by
  unfold vOut
  rw [mulf_apply, along_apply]
  exact (H.row j).symm

theorem heldAt_iter (R : Reads w w₂ anc t W₁ W₂ A) {a : Fin 8 → Fin 1024 → ℝ} (hA : Anchors A a) {v : VState Ideal}
    {r : Fin 256} {h : Fin 1024 → EReal} (H : HeldAt v r h) (n : ℕ) :
    HeldAt ((vStep w w₂ anc t)^[n] v) r ((rNext W₁ (fun _ => 0) W₂ (fun _ => 0) (A 0) (A 1) (A 2))^[n] h) := by
  induction n with
  | zero => exact H
  | succ n ih =>
    rw [Function.iterate_succ_apply', Function.iterate_succ_apply']
    exact heldAt_step R hA ih

end Collapse
-- ==== Proof.Anchors.lean ====
/-
  The normalised anchors: real rows of length one wherever an anchor's norm is finite and not below the floor.
-/
module

public import proofs.«01_k».proof.Proof.Layer
public import Idealize.ShloMosaic.Lib.ValueIdxCore

@[expose] public section

noncomputable section

namespace Collapse

open Idealize.ShloMosaic Idealize.ShloMosaic.ValueIdx
open scoped BigOperators

variable {ι : Type} [Fintype ι]

/-- A row over its length. -/
def unitRow (a : ι → EReal) (j : ι) : EReal := Ideal.div (a j) (len a)

/-- The three normalised anchors in the first of eight rows, the others zero. -/
def padded (a₀ a₁ a₂ : ι → EReal) (i : Fin 8) (j : ι) : EReal :=
  if i.val = 0 then unitRow a₀ j else if i.val = 1 then unitRow a₁ j else if i.val = 2 then unitRow a₂ j else 0

/-- An anchor's norm is finite and not below the floor. -/
def Proper (a : ι → EReal) : Prop := floorLit ≤ Ideal.sqrt (sq a) ∧ Ideal.sqrt (sq a) < ⊤

theorem unitRow_real {a : ι → EReal} (h : Proper a) :
    ∃ x : ι → ℝ, unitRow a = (fun j => (x j : EReal)) ∧ ∑ j, x j * x j = 1 := by
  rcases real_or_top a with ⟨x, rfl⟩ | ht
  · have hs : 0 ≤ ∑ j, x j * x j := Finset.sum_nonneg fun j _ => mul_self_nonneg (x j)
    have h1 := h.1
    rw [sq_coe, sqrt_coe' hs, floorLit_eq, EReal.coe_le_coe_iff] at h1
    have hp : 0 < Real.sqrt (∑ j, x j * x j) := lt_of_lt_of_le floorR_pos h1
    refine ⟨fun j => x j / Real.sqrt (∑ j, x j * x j), ?_, ?_⟩
    · funext j
      unfold unitRow
      rw [len_coe, max_eq_left h1, div_coe' _ hp.ne']
    · simp only [div_mul_div_comm, ← Finset.sum_div, Real.mul_self_sqrt hs]
      exact div_self (Real.sqrt_pos.mp hp).ne'
  · have := h.2
    rw [sq_top ht, Ideal.sqrt_top] at this
    exact absurd this (lt_irrefl _)

theorem anchors_padded {a₀ a₁ a₂ : ι → EReal} (h₀ : Proper a₀) (h₁ : Proper a₁) (h₂ : Proper a₂) :
    ∃ a : Fin 8 → ι → ℝ, Anchors (padded a₀ a₁ a₂) a := by
  obtain ⟨x₀, e₀, s₀⟩ := unitRow_real h₀
  obtain ⟨x₁, e₁, s₁⟩ := unitRow_real h₁
  obtain ⟨x₂, e₂, s₂⟩ := unitRow_real h₂
  refine ⟨fun i j => if i.val = 0 then x₀ j else if i.val = 1 then x₁ j else if i.val = 2 then x₂ j else 0, ?_, fun i hi => ?_⟩
  · funext i j
    unfold padded
    rw [e₀, e₁, e₂]
    split_ifs <;> rfl
  · obtain ⟨i, hi'⟩ := i
    have hi : i < 3 := hi
    match i, hi with
    | 0, _ => exact s₀
    | 1, _ => exact s₁
    | 2, _ => exact s₂

theorem padded_zero (a₀ a₁ a₂ : ι → EReal) : padded a₀ a₁ a₂ 0 = unitRow a₀ := rfl
theorem padded_one (a₀ a₁ a₂ : ι → EReal) : padded a₀ a₁ a₂ 1 = unitRow a₁ := rfl
theorem padded_two (a₀ a₁ a₂ : ι → EReal) : padded a₀ a₁ a₂ 2 = unitRow a₂ := rfl

/-- The sum of a vector's squares, over its indices. -/
theorem sum_squares (a : (⟨1, ![1024]⟩ : Shape).Idx → EReal) :
    ∑ i : (⟨1, ![1024]⟩ : Shape).Idx, a i * a i = sq fun l : Fin 1024 => a (ix1 l) :=
  Fintype.sum_equiv ⟨fun i => i 0, ix1, fun i => (eq_ix1 i).symm, fun _ => rfl⟩ _ (fun l : Fin 1024 => a (ix1 l) * a (ix1 l))
    fun i => congrArg (fun i => a i * a i) (eq_ix1 i)

/-- Both programs' result: each row of the input after six layers of the reference, the biases zero. -/
def target (h : (⟨2, ![4096, 1024]⟩ : Shape).Idx → EReal) (w w₂ : (⟨2, ![1024, 1024]⟩ : Shape).Idx → EReal)
    (a₀ a₁ a₂ : (⟨1, ![1024]⟩ : Shape).Idx → EReal) (i : (⟨2, ![4096, 1024]⟩ : Shape).Idx) : EReal :=
  (rNext (fun p l => w (ix2 p l)) (fun _ => 0) (fun j p => w₂ (ix2 j p)) (fun _ => 0)
    (unitRow fun l => a₀ (ix1 l)) (unitRow fun l => a₁ (ix1 l)) (unitRow fun l => a₂ (ix1 l)))^[6]
    (fun l => h (ix2 (i 0) l)) (i 1)

theorem target_congr {h h' : (⟨2, ![4096, 1024]⟩ : Shape).Idx → EReal} {w w' w₂ w₂' : (⟨2, ![1024, 1024]⟩ : Shape).Idx → EReal}
    {a₀ a₀' a₁ a₁' a₂ a₂' : (⟨1, ![1024]⟩ : Shape).Idx → EReal} (eh : h = h') (ew : w = w') (ew₂ : w₂ = w₂') (e₀ : a₀ = a₀')
    (e₁ : a₁ = a₁') (e₂ : a₂ = a₂') : target h w w₂ a₀ a₁ a₂ = target h' w' w₂' a₀' a₁' a₂' := by
  rw [eh, ew, ew₂, e₀, e₁, e₂]

end Collapse
-- ==== Proof.Host.lean ====
/-
  The kernel's host operations: what the region finds in the weights with the anchors below them and in the eight
  anchor rows.
-/
module

public import proofs.«01_k».proof.Proof.Rows
public import proofs.«01_k».proof.Proof.Anchors
public import Idealize.ShloMosaic.Lib.IdealHost
public import Idealize.ShloMosaic.Lib.StableHlo.RunRead

@[expose] public section

set_option maxRecDepth 16384

noncomputable section

namespace Collapse

open Idealize.ShloMosaic Idealize.ShloMosaic.TcCoe Idealize.ShloMosaic.ValueIdx Idealize.SL.Sem Cert.KernelIdeal Cert.KernelIdeal.Gen
open scoped BigOperators

section Terms

variable {F : FTy → Type} [FloatOps F]

/-- An anchor as a matrix of one row. -/
abbrev hRow (a : FVec F S1024 .f32) : FVec F S1x1024 .f32 := broadcastInDim S1x1024 ![1] bcast_S1024_S1x1024_1 a

/-- The three anchors as rows. -/
def hStack (a₀ a₁ a₂ : FVec F S1024 .f32) : FVec F S3x1024 .f32 :=
  concatenate S3x1024 0 [⟨S1x1024, hRow a₀⟩, ⟨S1x1024, hRow a₁⟩, ⟨S1x1024, hRow a₂⟩] concatenates_S1x1024_S1x1024_S1x1024_S3x1024_d0

/-- The rows over their lengths. -/
def hUnit (x : FVec F S3x1024 .f32) : FVec F S3x1024 .f32 :=
  Host.divf x (broadcastInDim S3x1024 ![0, 1] bcast_S3x1_S3x1024_0_1
    (maximumf (Host.sqrt (broadcastInDim S3x1 ![0] bcast_S3_S3x1_0
        (Host.reduceAdd (mulf x x) (constant S_ .f32 0x00000000#32) reducesTo_S3x1024_S3_d1 h_S_)))
      (broadcastInDim S3x1 ![] bcast_S_S3x1 (constant S_ .f32 0x2B8CBCCC#32))))

/-- The rows with zero rows below. -/
def hPad (x : FVec F S3x1024 .f32) : FVec F S128x1024 .f32 :=
  concatenate S128x1024 0 [⟨S3x1024, x⟩,
    ⟨S125x1024, broadcastInDim S125x1024 ![] bcast_S_S125x1024 (constant S_ .f32 0x00000000#32)⟩] concatenates_S3x1024_S125x1024_S128x1024_d0

/-- The weights with the padded anchors below. -/
def hBelow (w : FVec F S1024x1024 .f32) (p : FVec F S128x1024 .f32) : FVec F S1152x1024 .f32 :=
  concatenate S1152x1024 0 [⟨S1024x1024, w⟩, ⟨S128x1024, p⟩] concatenates_S1024x1024_S128x1024_S1152x1024_d0

/-- The first eight of the padded rows. -/
def hEight (p : FVec F S128x1024 .f32) : FVec F S8x1024 .f32 := extractStridedSlice S8x1024 ![0, 0] p slices_S128x1024_S8x1024_0_0

variable (m : (ℓ : Loc nD τ sig) → Buf (Elt F) ℓ) (c : Dev nD)

set_option maxHeartbeats 1600000 in
theorem V_main_v11 : V m c main_v11 = hBelow (m ((c.tc : Thread nD τ).loc main_arg1))
    (hPad (hUnit (hStack (m ((c.tc : Thread nD τ).loc main_arg5)) (m ((c.tc : Thread nD τ).loc main_arg6)) (m ((c.tc : Thread nD τ).loc main_arg7))))) := by
  show StableHlo.after _ _ (Proc.devRef .tc main_v11) = _
  simp only [hostOps0, hostOps0_1, hostOps0_2, List.flatten_cons, List.flatten_nil, List.append_nil, List.cons_append, List.nil_append]
  after_reads_simp
  rfl

set_option maxHeartbeats 1600000 in
theorem V_main_v12 : V m c main_v12 = hEight
    (hPad (hUnit (hStack (m ((c.tc : Thread nD τ).loc main_arg5)) (m ((c.tc : Thread nD τ).loc main_arg6)) (m ((c.tc : Thread nD τ).loc main_arg7))))) := by
  show StableHlo.after _ _ (Proc.devRef .tc main_v12) = _
  simp only [hostOps0, hostOps0_1, hostOps0_2, List.flatten_cons, List.flatten_nil, List.append_nil, List.cons_append, List.nil_append]
  after_reads_simp
  rfl

end Terms

/-! ## Read at an index, at the ideal values -/

/-- Anchor `i` of three, at the ideal values. -/
def pick (a₀ a₁ a₂ : Fin 1024 → EReal) (i : Fin 3) : Fin 1024 → EReal :=
  if i.val = 0 then a₀ else if i.val = 1 then a₁ else a₂

theorem hRow_apply (a : FVec Ideal S1024 .f32) (j : Fin 1024) : hRow a (ix2 0 j) = a (ix1 j) :=
  broadcastInDim_apply _ _ a _ _ fun b => by match b with | ⟨0, _⟩ => rfl

theorem hStack_apply (a₀ a₁ a₂ : FVec Ideal S1024 .f32) (i : Fin 3) (j : Fin 1024) :
    hStack a₀ a₁ a₂ (ix2 i j) = pick (fun l => a₀ (ix1 l)) (fun l => a₁ (ix1 l)) (fun l => a₂ (ix1 l)) i j := by
  unfold hStack
  match i with
  | ⟨0, _⟩ =>
    refine (concatenate_apply_piece (t := S3x1024) 0 [⟨S1x1024, hRow a₀⟩, ⟨S1x1024, hRow a₁⟩, ⟨S1x1024, hRow a₂⟩] _ _ 0 (by simp) S1x1024 (hRow a₀) rfl rfl 0 rfl (ix2 0 j) (fun b hb => ?_) rfl).trans (hRow_apply a₀ j)
    match b, hb with | ⟨0, _⟩, hb => exact absurd rfl hb | ⟨1, _⟩, _ => rfl
  | ⟨1, _⟩ =>
    refine (concatenate_apply_piece (t := S3x1024) 0 [⟨S1x1024, hRow a₀⟩, ⟨S1x1024, hRow a₁⟩, ⟨S1x1024, hRow a₂⟩] _ _ 1 (by simp) S1x1024 (hRow a₁) rfl rfl 1 rfl (ix2 0 j) (fun b hb => ?_) rfl).trans (hRow_apply a₁ j)
    match b, hb with | ⟨0, _⟩, hb => exact absurd rfl hb | ⟨1, _⟩, _ => rfl
  | ⟨2, _⟩ =>
    refine (concatenate_apply_piece (t := S3x1024) 0 [⟨S1x1024, hRow a₀⟩, ⟨S1x1024, hRow a₁⟩, ⟨S1x1024, hRow a₂⟩] _ _ 2 (by simp) S1x1024 (hRow a₂) rfl rfl 2 rfl (ix2 0 j) (fun b hb => ?_) rfl).trans (hRow_apply a₂ j)
    match b, hb with | ⟨0, _⟩, hb => exact absurd rfl hb | ⟨1, _⟩, _ => rfl

theorem hUnit_apply (x : FVec Ideal S3x1024 .f32) (i : Fin 3) (j : Fin 1024) :
    hUnit x (ix2 i j) = unitRow (fun l => x (ix2 i l)) j := by
  unfold hUnit unitRow len sq
  rw [hostDivf_apply]
  congr 1
  refine (broadcastInDim_apply _ _ _ _ (ix2 i 0) fun b => by match b with | ⟨0, _⟩ => rfl | ⟨1, _⟩ => rfl).trans ?_
  rw [maximumf_apply, broadcastInDim_scalar_apply, constant_apply]
  congr 1
  refine congrArg Ideal.sqrt ?_
  refine (broadcastInDim_apply _ _ _ _ (ix1 i) fun b => by match b with | ⟨0, _⟩ => rfl).trans ?_
  rw [hostReduceAdd_apply, constant_apply, Ideal.ofBits_zero_f32]
  refine (Ideal.hostReduceAdd_single (a := 1) _ (by decide) _ _ _).trans ?_
  rw [zero_add]
  refine Finset.sum_congr rfl fun l _ => ?_
  rw [mulf_apply]
  congr 1 <;> exact congrArg x (by funext b; match b with | ⟨0, _⟩ => rfl | ⟨1, _⟩ => rfl)

theorem hPad_apply (x : FVec Ideal S3x1024 .f32) (i : Fin 8) (j : Fin 1024) :
    hPad x (ix2 (⟨i.val, by omega⟩ : Fin 128) j) = if h : i.val < 3 then x (ix2 ⟨i.val, h⟩ j) else 0 := by
  unfold hPad
  split_ifs with h
  · exact concatenate_pair_apply_left (t := S128x1024) (s₁ := S3x1024) (s₂ := S125x1024) 0 _ _ _ _ rfl (ix2 ⟨i.val, h⟩ j) fun b => by
      match b with | ⟨0, _⟩ => rfl | ⟨1, _⟩ => rfl
  · refine (concatenate_pair_apply_right (t := S128x1024) (s₁ := S3x1024) (s₂ := S125x1024) 0 _ _ _ _ rfl rfl (ix2 (⟨i.val - 3, by omega⟩ : Fin 125) j) (fun b hb => ?_) ?_).trans ?_
    · match b, hb with | ⟨0, _⟩, hb => exact absurd rfl hb | ⟨1, _⟩, _ => rfl
    · show i.val - 3 + 3 = i.val; omega
    · rw [broadcastInDim_scalar_apply, constant_apply, Ideal.ofBits_zero_f32]

/-- The kernel's padded anchors are the three normalised anchors over zero rows. -/
theorem anchorRows_apply (a₀ a₁ a₂ : FVec Ideal S1024 .f32) (i : Fin 8) (j : Fin 1024) :
    hPad (hUnit (hStack a₀ a₁ a₂)) (ix2 (⟨i.val, by omega⟩ : Fin 128) j)
      = padded (fun l => a₀ (ix1 l)) (fun l => a₁ (ix1 l)) (fun l => a₂ (ix1 l)) i j := by
  rw [hPad_apply]
  unfold padded
  by_cases h : i.val < 3
  · rw [dif_pos h, hUnit_apply]
    simp only [hStack_apply]
    unfold pick
    have h' : i.val = 0 ∨ i.val = 1 ∨ i.val = 2 := by omega
    rcases h' with e | e | e <;> simp [e]
  · rw [dif_neg h, if_neg (by omega), if_neg (by omega), if_neg (by omega)]

theorem below_first (w : FVec Ideal S1024x1024 .f32) (p : FVec Ideal S128x1024 .f32) (q l : Fin 1024) :
    hBelow w p (ix2 (⟨q.val, by omega⟩ : Fin 1152) l) = w (ix2 q l) :=
  concatenate_pair_apply_left (t := S1152x1024) (s₁ := S1024x1024) (s₂ := S128x1024) 0 _ _ _ _ rfl (ix2 q l) fun b => by match b with | ⟨0, _⟩ => rfl | ⟨1, _⟩ => rfl

theorem below_second (w : FVec Ideal S1024x1024 .f32) (p : FVec Ideal S128x1024 .f32) (i : Fin 8) (l : Fin 1024) :
    hBelow w p (ix2 (⟨1024 + i.val, by omega⟩ : Fin 1152) l) = p (ix2 (⟨i.val, by omega⟩ : Fin 128) l) :=
  concatenate_pair_apply_right (t := S1152x1024) (s₁ := S1024x1024) (s₂ := S128x1024) 0 _ _ _ _ rfl rfl (ix2 (⟨i.val, by omega⟩ : Fin 128) l)
    (fun b hb => by match b, hb with | ⟨0, _⟩, hb => exact absurd rfl hb | ⟨1, _⟩, _ => rfl)
    (by show i.val + 1024 = 1024 + i.val; omega)

theorem eight_apply (p : FVec Ideal S128x1024 .f32) (i : Fin 8) (l : Fin 1024) :
    hEight p (ix2 i l) = p (ix2 (⟨i.val, by omega⟩ : Fin 128) l) :=
  extractStridedSlice_apply _ _ _ _ _ fun b => by
    match b with
    | ⟨0, _⟩ => show i.val = 0 + i.val; omega
    | ⟨1, _⟩ => show l.val = 0 + l.val; omega

/-- The strengths the kernel selects by lane. -/
theorem strengths_apply (i : Fin 8) : (k0_pay5 (F := Ideal)) (ix2 0 i) = strength i := by
  fin_cases i <;> rfl

/-- What the kernel reads, from the arguments. -/
theorem reads (w w₂ : FVec Ideal S1024x1024 .f32) (a₀ a₁ a₂ : FVec Ideal S1024 .f32) :
    Reads (hBelow w (hPad (hUnit (hStack a₀ a₁ a₂)))) w₂ (hEight (hPad (hUnit (hStack a₀ a₁ a₂)))) k0_pay5
      (fun p l => w (ix2 p l)) (fun j p => w₂ (ix2 j p))
      (padded (fun l => a₀ (ix1 l)) (fun l => a₁ (ix1 l)) (fun l => a₂ (ix1 l))) where
  first := below_first _ _
  below i l := by rw [below_second, anchorRows_apply]
  second _ _ := rfl
  anchors i l := by rw [eight_apply, anchorRows_apply]
  strengths := strengths_apply

end Collapse
-- ==== Proof.KernelRun.lean ====
/-
  The kernel's run at the ideal values: the result array ends at `target` of the arguments, wherever the three anchors
  are proper.
-/
module

public import proofs.«01_k».proof.Proof.Host

@[expose] public section

set_option maxRecDepth 16384

noncomputable section

namespace Collapse

open Idealize.ShloMosaic Idealize.ShloMosaic.TcCoe Idealize.ShloMosaic.ValueIdx Idealize.SL.Sem Cert.KernelIdeal Cert.KernelIdeal.Gen
open scoped BigOperators

theorem hz : (![0, 0] : Fin 2 → Nat) = fun _ => 0 := funext fun a => by fin_cases a <;> rfl

/-! ## One grid point's block -/

/-- Row `r` of the first half of a block. -/
theorem firstHalf_apply (x : FVec Ideal S512x1024 .f32) (r : Fin 256) (l : Fin 1024) :
    k0_pay6 x (ix2 r l) = x (ix2 (⟨r.val, by omega⟩ : Fin 512) l) := by
  show extractStridedSlice S256x1024 ![0, 0] x slices_S512x1024_o0_0_S256x1024 (ix2 r l) = _
  exact extractStridedSlice_apply _ x _ _ _ fun a => by
    match a with
    | ⟨0, _⟩ => show r.val = 0 + r.val; omega
    | ⟨1, _⟩ => show l.val = 0 + l.val; omega

/-- Row `r` of the second half of a block. -/
theorem secondHalf_apply (x : FVec Ideal S512x1024 .f32) (r : Fin 256) (l : Fin 1024) :
    k0_pay7 x (ix2 r l) = x (ix2 (⟨256 + r.val, by omega⟩ : Fin 512) l) := by
  show extractStridedSlice S256x1024 ![256, 0] x slices_S512x1024_o256_0_S256x1024 (ix2 r l) = _
  exact extractStridedSlice_apply _ x _ _ _ fun a => by
    match a with
    | ⟨0, _⟩ => rfl
    | ⟨1, _⟩ => show l.val = 0 + l.val; omega

section Point

variable {x1 : FVec Ideal S1152x1024 .f32} {x2 : FVec Ideal S1024x1024 .f32} {x3 : FVec Ideal S8x1024 .f32}
  {W₁ W₂ : Fin 1024 → Fin 1024 → EReal} {A : Fin 8 → Fin 1024 → EReal}

/-- The kernel's layer at a grid point reads the whole of what it loads. -/
theorem bStep_eq (x0 : FVec Ideal S512x1024 .f32) : bStep x0 x1 x2 x3 = vStep x1 x2 x3 (k0_pay5 (F := Ideal)) := by
  funext v
  unfold bStep k0_pay120 k0_pay121 k0_pay122 k0_pay3 k0_pay4
  rw [View.ld_unit_zero hz, View.ld_unit_zero hz, View.ld_unit_zero hz]
  rw [shapeCast_self, shapeCast_self]

/-- A half's rows after the six layers. -/
theorem bHalf_apply (R : Reads x1 x2 x3 k0_pay5 W₁ W₂ A) {a : Fin 8 → Fin 1024 → ℝ} (hA : Anchors A a)
    (x0 : FVec Ideal S512x1024 .f32) (y : FVec Ideal S256x1024 .f32) (r : Fin 256) (j : Fin 1024) :
    bHalf x0 x1 x2 x3 y (ix2 r j)
      = (rNext W₁ (fun _ => 0) W₂ (fun _ => 0) (A 0) (A 1) (A 2))^[6] (fun l => y (ix2 r l)) j := by
  unfold bHalf
  rw [bStep_eq]
  exact vOut_apply (heldAt_iter R hA (heldAt_start y r) 6) j

/-- Each row of a block after the six layers. -/
def rowsOut (W₁ W₂ : Fin 1024 → Fin 1024 → EReal) (A : Fin 8 → Fin 1024 → EReal) (x0 : FVec Ideal S512x1024 .f32) :
    FVec Ideal S512x1024 .f32 :=
  fun y => (rNext W₁ (fun _ => 0) W₂ (fun _ => 0) (A 0) (A 1) (A 2))^[6] (fun l => x0 (ix2 (y 0) l)) (y 1)

/-- What a grid point stores. -/
theorem out_apply (R : Reads x1 x2 x3 k0_pay5 W₁ W₂ A) {a : Fin 8 → Fin 1024 → ℝ} (hA : Anchors A a)
    (x0 : FVec Ideal S512x1024 .f32) : out0_4 (F := Ideal) x0 x1 x2 x3 = rowsOut W₁ W₂ A x0 := by
  funext y
  rw [out_eq]
  refine View.canon_apply_of_pieces (Val := Elt Ideal) (rowsOut W₁ W₂ A x0) _ (fun p hp x => ?_) y (cover0_4 (F := Ideal) _ _ y)
  simp only [List.mem_cons, List.mem_nil_iff, or_false] at hp
  rcases hp with rfl | rfl
  · obtain ⟨r, j, rfl⟩ : ∃ (r : Fin 256) (j : Fin 1024), x = ix2 r j := ⟨x 0, x 1, eq_ix2 x⟩
    refine (bHalf_apply R hA x0 _ r j).trans ?_
    have e : ∀ l : Fin 1024, k0_pay124 x0 x1 x2 x3 (ix2 r l) = x0 (ix2 (r0_5.emb (ix2 r j) 0) l) := fun l => by
      unfold k0_pay124
      rw [View.ld_unit_zero hz, secondHalf_apply]
      refine congrArg (fun q => x0 (ix2 q l)) (Fin.ext ?_)
      show 256 + r.val = 256 + 1 * r.val
      omega
    have e1 : j = r0_5.emb (ix2 r j) 1 := Fin.ext (by show j.val = 0 + 1 * j.val; omega)
    simp only [e]
    exact congrArg ((rNext W₁ (fun _ => 0) W₂ (fun _ => 0) (A 0) (A 1) (A 2))^[6] _) e1
  · obtain ⟨r, j, rfl⟩ : ∃ (r : Fin 256) (j : Fin 1024), x = ix2 r j := ⟨x 0, x 1, eq_ix2 x⟩
    refine (bHalf_apply R hA x0 _ r j).trans ?_
    have e : ∀ l : Fin 1024, k0_pay123 x0 x1 x2 x3 (ix2 r l) = x0 (ix2 (r0_4.emb (ix2 r j) 0) l) := fun l => by
      unfold k0_pay123
      rw [View.ld_unit_zero hz, firstHalf_apply]
      refine congrArg (fun q => x0 (ix2 q l)) (Fin.ext ?_)
      show r.val = 0 + 1 * r.val
      omega
    have e1 : j = r0_4.emb (ix2 r j) 1 := Fin.ext (by show j.val = 0 + 1 * j.val; omega)
    simp only [e]
    exact congrArg ((rNext W₁ (fun _ => 0) W₂ (fun _ => 0) (A 0) (A 1) (A 2))^[6] _) e1

end Point

/-! ## The region's blocks -/

variable (m : (ℓ : Loc nD τ sig) → Buf (Elt Ideal) ℓ) (ρ : Dev nD → PrngReg) (c : Dev nD)

/-- An argument array of device `c`. -/
abbrev argAt (b : Ref sig .tc) : Buf (Elt Ideal) ((c.tc : Thread nD τ).loc b) := m ((c.tc : Thread nD τ).loc b)

theorem index_rows (t : Fin cfg0.N) :
    win0_0.index t 0 * win0_0.size 0 = t.val * 512 ∧ win0_0.index t 1 * win0_0.size 1 = 0
      ∧ win0_4.index t 0 * win0_4.size 0 = t.val * 512 ∧ win0_4.index t 1 * win0_4.size 1 = 0
      ∧ win0_4.xsize (grid0.coords t) 0 = 512 ∧ win0_4.xsize (grid0.coords t) 1 = 1024 := by
  rcases fin_N0 t with rfl | rfl | rfl | rfl | rfl | rfl | rfl | rfl <;> decide +kernel

theorem index_whole (t : Fin cfg0.N) :
    (∀ a, win0_1.index t a = 0) ∧ (∀ a, win0_2.index t a = 0) ∧ ∀ a, win0_3.index t a = 0 := by
  rcases fin_N0 t with rfl | rfl | rfl | rfl | rfl | rfl | rfl | rfl <;> decide +kernel

/-- Row `t * 512 + r` of the arrays. -/
def rowAt (t : Fin cfg0.N) (r : Fin 512) : Fin 4096 :=
  ⟨t.val * 512 + r.val, by have h : t.val < 8 := N_0 ▸ t.isLt; omega⟩

theorem iblk_0 (t : Fin cfg0.N) (r : Fin 512) (l : Fin 1024) :
    iblk m c 0 t (ix2 r l) = argAt m c main_arg0 (ix2 (rowAt t r) l) := by
  show V m c main_arg0 ((win0_0.rect t).emb (ix2 r l)) = _
  rw [V_main_arg0]
  refine congrArg (argAt m c main_arg0) (funext fun a => Fin.ext ?_)
  refine (win0_0.rect_emb_val t (ix2 r l) a).trans ?_
  have h := index_rows t
  match a with
  | ⟨0, _⟩ => show win0_0.index t 0 * win0_0.size 0 + r.val = t.val * 512 + r.val; rw [h.1]
  | ⟨1, _⟩ => show win0_0.index t 1 * win0_0.size 1 + l.val = l.val; rw [h.2.1, Nat.zero_add]

theorem iblk_1 (t : Fin cfg0.N) : iblk m c 1 t = V m c main_v11 := by
  funext y
  show V m c main_v11 ((win0_1.rect t).emb y) = V m c main_v11 y
  exact congrArg (V m c main_v11) (funext fun a => Fin.ext (win0_1.rect_emb_val_of_index_zero t a ((index_whole t).1 a) y))

theorem iblk_2 (t : Fin cfg0.N) : iblk m c 2 t = argAt m c main_arg3 := by
  funext y
  show V m c main_arg3 ((win0_2.rect t).emb y) = _
  rw [V_main_arg3]
  exact congrArg (argAt m c main_arg3) (funext fun a => Fin.ext (win0_2.rect_emb_val_of_index_zero t a ((index_whole t).2.1 a) y))

theorem iblk_3 (t : Fin cfg0.N) : iblk m c 3 t = V m c main_v12 := by
  funext y
  show V m c main_v12 ((win0_3.rect t).emb y) = V m c main_v12 y
  exact congrArg (V m c main_v12) (funext fun a => Fin.ext (win0_3.rect_emb_val_of_index_zero t a ((index_whole t).2.2 a) y))

/-! ## The result array -/

/-- What the result array is shown to hold. -/
abbrev result : Buf (Elt Ideal) ((c.tc : Thread nD τ).loc main_v13) :=
  target (argAt m c main_arg0) (argAt m c main_arg1) (argAt m c main_arg3) (argAt m c main_arg5) (argAt m c main_arg6) (argAt m c main_arg7)

/-- The three anchors of device `c` are proper. -/
def AllProper : Prop :=
  Proper (fun l : Fin 1024 => argAt m c main_arg5 (ix1 l)) ∧ Proper (fun l : Fin 1024 => argAt m c main_arg6 (ix1 l))
    ∧ Proper (fun l : Fin 1024 => argAt m c main_arg7 (ix1 l))

variable {m c} in
theorem flushed_eq (hP : AllProper m c) (t : Fin cfg0.N) :
    (dats m 0 c).flushed 4 t = (win0_4.blk t).view.read (Elt Ideal) (result m c) := by
  obtain ⟨a, hA⟩ := anchors_padded hP.1 hP.2.1 hP.2.2
  show (cfg0.win 4).cut (grid0.coords t) ((dats m 0 c).after 4 t) = _
  rw [after0_4, iblk_1, iblk_2, iblk_3, V_main_v11, V_main_v12]
  funext y
  obtain ⟨r, j, rfl⟩ : ∃ (r : Fin 512) (j : Fin 1024), y = ix2 r j := ⟨y 0, y 1, eq_ix2 y⟩
  refine (congrFun (out_apply (reads _ _ _ _ _) hA (iblk m c 0 t)) (ix2 r j)).trans ?_
  show (rNext _ _ _ _ _ _ _)^[6] (fun l => iblk m c 0 t (ix2 r l)) j = result m c ((win0_4.rect t).emb (ix2 r j))
  have h := index_rows t
  have e : (win0_4.rect t).emb (ix2 r j) = ix2 (rowAt t r) j := funext fun a => Fin.ext (by
    refine (win0_4.rect_emb_val t (ix2 r j) a).trans ?_
    match a with
    | ⟨0, _⟩ => show win0_4.index t 0 * win0_4.size 0 + r.val = t.val * 512 + r.val; rw [h.2.2.1]
    | ⟨1, _⟩ => show win0_4.index t 1 * win0_4.size 1 + j.val = j.val; rw [h.2.2.2.1, Nat.zero_add])
  rw [e]
  simp only [iblk_0]
  rfl

theorem mem_blk (t : Fin cfg0.N) (i : S4096x1024.Idx) :
    i ∈ ((cfg0.win 4).blk t).view.set ↔ t.val * 512 ≤ (i 0 : Nat) ∧ (i 0 : Nat) < t.val * 512 + 512 := by
  show i ∈ ((View.whole main_v13).slice (win0_4.rect t)).set ↔ _
  rw [View.set_slice_whole, Rect.mem_set_unit]
  have h1 : (i 1 : Nat) < 1024 := (i 1).isLt
  obtain ⟨-, -, e0, e1, s0, s1⟩ := index_rows t
  refine ⟨fun h => ?_, fun h a => ?_⟩
  · have : win0_4.index t 0 * win0_4.size 0 ≤ (i 0 : Nat) ∧ (i 0 : Nat) < win0_4.index t 0 * win0_4.size 0 + win0_4.xsize (grid0.coords t) 0 := h 0
    rw [e0, s0] at this; exact this
  · match a with
    | ⟨0, _⟩ => show win0_4.index t 0 * win0_4.size 0 ≤ (i 0 : Nat) ∧ (i 0 : Nat) < win0_4.index t 0 * win0_4.size 0 + win0_4.xsize (grid0.coords t) 0
                rw [e0, s0]; exact h
    | ⟨1, _⟩ => show win0_4.index t 1 * win0_4.size 1 ≤ (i 1 : Nat) ∧ (i 1 : Nat) < win0_4.index t 1 * win0_4.size 1 + win0_4.xsize (grid0.coords t) 1
                rw [e1, s1]; omega

/-- The eight blocks of 512 rows tile the result. -/
theorem cover (i : S4096x1024.Idx) :
    ∃ t : Fin cfg0.N, (cfg0.win 4).flush t = true ∧ i ∈ ((cfg0.win 4).blk t).view.set := by
  have h0 : (i 0 : Nat) < 4096 := (i 0).isLt
  have hN : cfg0.N = 8 := N_0
  refine ⟨⟨(i 0 : Nat) / 512, by omega⟩, flush0_4 _, ?_⟩
  rw [mem_blk]
  dsimp only
  omega

variable {m} in
/-- The kernel's run: the result at `target` of the arguments, the arguments unchanged. -/
theorem kernel_run (hP : ∀ c, AllProper m c) :
    θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h.1 c).1 4).trans
      ((dats m 0 c).arrAt_eq_of_cover 4 (result m c) (fun t _ => flushed_eq (hP c) t) cover), h.2 c⟩)
    (θ_run_and (run_main m ρ) (unchanged m ρ))

end Collapse
-- ==== Proof.Reference.lean ====
/-
  The reference's run at the ideal values: the result array ends at `target` of the arguments, wherever the biases
  are zero.
-/
module

public import proofs.«01_k».proof.Proof.Gen.ReferenceIdeal.StepRun
public import proofs.«01_k».proof.Proof.Anchors
public import Idealize.ShloMosaic.Lib.IdealHost
public import Idealize.ShloMosaic.Lib.ValueIdx
public import Idealize.ShloMosaic.Lib.StackMember
public import Idealize.ShloMosaic.Lib.Pipeline.Value

@[expose] public section

set_option maxRecDepth 16384

noncomputable section

namespace Collapse.Ref

open Idealize.ShloMosaic Idealize.ShloMosaic.ValueIdx Idealize.SL.Sem Cert.ReferenceIdeal Cert.ReferenceIdeal.Gen Cert.ReferenceIdeal.Step Cert.ReferenceIdeal.StepRun
open scoped BigOperators

/-! ## A layer in the reference's operations -/

section Terms

variable {F : FTy → Type} [FloatOps F]

/-- A literal in every row. -/
abbrev rLit (w : BitVec 32) : FVec F S4096x1 .f32 := broadcastInDim S4096x1 ![] bcast_S_S4096x1 (constant S_ .f32 w)
/-- A column along the rows. -/
abbrev rCol (v : FVec F S4096x1 .f32) : FVec F S4096x1024 .f32 := broadcastInDim S4096x1024 ![0, 1] bcast_S4096x1_S4096x1024_0_1 v
/-- A row under every row. -/
abbrev rRow (a : FVec F S1024 .f32) : FVec F S4096x1024 .f32 :=
  broadcastInDim S4096x1024 ![0, 1] bcast_S1x1024_S4096x1024_0_1 (broadcastInDim S1x1024 ![1] bcast_S1024_S1x1024_1 a)
/-- The rows' sums. -/
def rSum (x : FVec F S4096x1024 .f32) : FVec F S4096x1 .f32 :=
  broadcastInDim S4096x1 ![0] bcast_S4096_S4096x1_0 (Host.reduceAdd x (constant S_ .f32 0x00000000#32) reducesTo_S4096x1024_S4096_d1 h_S_)
/-- The rows' norms. -/
def rNorm (x : FVec F S4096x1024 .f32) : FVec F S4096x1 .f32 := Host.sqrt (rSum (mulf x x))
/-- The rows over their lengths. -/
def rUnit (x : FVec F S4096x1024 .f32) : FVec F S4096x1024 .f32 :=
  Host.divf x (rCol (maximumf (rNorm x) (rLit 0x2B8CBCCC#32)))
/-- The pull of an anchor. -/
def rPull (w : BitVec 32) (a : FVec F S1024 .f32) (x : FVec F S4096x1024 .f32) : FVec F S4096x1024 .f32 :=
  mulf (rCol (mulf (rLit w) (subf (rLit 0x3F800000#32) (rSum (mulf (rUnit x) (rRow a)))))) (rUnit (subf x (rRow a)))
/-- A dense layer. -/
def rDense (w : FVec F S1024x1024 .f32) (b : FVec F S1024 .f32) (x : FVec F S4096x1024 .f32) : FVec F S4096x1024 .f32 :=
  addf (Host.dotGeneral dot_S4096x1024_S1024x1024_S4096x1024_1_0_0_1_n_n none x
    (transpose S1024x1024 [1, 0] w transposes_S1024x1024_S1024x1024_1_0)) (rRow b)
/-- The cap on the rows' norms. -/
def rCap (x : FVec F S4096x1024 .f32) : FVec F S4096x1024 .f32 :=
  select (broadcastInDim S4096x1024 ![0, 1] bcast_S4096x1_S4096x1024_0_1 (cmpf .ogt (rNorm x) (rLit 0x41200000#32)))
    (mulf x (rCol (Host.divf (rLit 0x41200000#32) (addf (rNorm x) (rLit 0x322BCC77#32))))) x

variable (n : ℕ) (s : State F)

theorem b22_eq : b22 n s = rDense s.main_v24_2 s.main_v24_3 (Host.tanh (rDense s.main_v24_0 s.main_v24_1 s.main_v24_9)) := rfl
theorem b49_eq : b49 n s = rPull 0x3DCCCCCD#32 s.main_v24_4 s.main_v24_9 := rfl
theorem b79_eq : b79 n s = rPull 0x3DCCCCCD#32 s.main_v24_5 s.main_v24_9 := rfl
theorem b107_eq : b107 n s = rPull 0x3D4CCCCD#32 s.main_v24_6 s.main_v24_9 := rfl
theorem b128_eq : b128 n s = rCap (b110 n s) := rfl
theorem b110_eq : b110 n s = subf (addf s.main_v24_9 (b22 n s))
    (addf (addf (addf (broadcastInDim S4096x1024 ![] bcast_S_S4096x1024 (constant S_ .f32 0x00000000#32)) (b49 n s)) (b79 n s)) (b107 n s)) := rfl

/-- A normalised anchor. -/
def rAnchor (a : FVec F S1024 .f32) : FVec F S1024 .f32 :=
  Host.divf a (broadcastInDim S1024 ![0] bcast_S1_S1024_0 (maximumf
    (Host.sqrt (broadcastInDim S1 ![] bcast_S_S1 (Host.reduceAdd (mulf a a) (constant S_ .f32 0x00000000#32) reducesTo_S1024_S_d0 h_S_)))
    (broadcastInDim S1 ![] bcast_S_S1 (constant S_ .f32 0x2B8CBCCC#32))))

end Terms

/-! ## Read at a row, at the ideal values -/

theorem rLit_apply (w : BitVec 32) (i : S4096x1.Idx) : rLit (F := Ideal) w i = Ideal.ofBits .f32 w :=
  broadcastInDim_scalar_apply _ _ _

theorem rCol_apply (v : FVec Ideal S4096x1 .f32) (r : Fin 4096) (j : Fin 1024) : rCol v (ix2 r j) = v (ix2 r 0) :=
  broadcastInDim_apply _ _ v _ _ fun b => by match b with | ⟨0, _⟩ => rfl | ⟨1, _⟩ => rfl

theorem rRow_apply (a : FVec Ideal S1024 .f32) (r : Fin 4096) (j : Fin 1024) : rRow a (ix2 r j) = a (ix1 j) :=
  (broadcastInDim_apply _ _ _ _ (ix2 0 j) fun b => by match b with | ⟨0, _⟩ => rfl | ⟨1, _⟩ => rfl).trans
    (broadcastInDim_apply _ _ a _ _ fun b => by match b with | ⟨0, _⟩ => rfl)

theorem rSum_apply (x : FVec Ideal S4096x1024 .f32) (r : Fin 4096) : rSum x (ix2 r 0) = ∑ l : Fin 1024, x (ix2 r l) := by
  unfold rSum
  refine (broadcastInDim_apply _ _ _ _ (ix1 r) fun b => by match b with | ⟨0, _⟩ => rfl).trans ?_
  rw [hostReduceAdd_apply, constant_apply, Ideal.ofBits_zero_f32]
  refine (Ideal.hostReduceAdd_single (a := 1) _ (by decide) _ _ _).trans ?_
  rw [zero_add]
  exact Finset.sum_congr rfl fun l _ => congrArg x (by funext b; match b with | ⟨0, _⟩ => rfl | ⟨1, _⟩ => rfl)

theorem rNorm_apply (x : FVec Ideal S4096x1024 .f32) (r : Fin 4096) :
    rNorm x (ix2 r 0) = Ideal.sqrt (sq fun l => x (ix2 r l)) :=
  congrArg Ideal.sqrt (rSum_apply (mulf x x) r)

theorem rUnit_apply (x : FVec Ideal S4096x1024 .f32) (r : Fin 4096) (j : Fin 1024) :
    rUnit x (ix2 r j) = Ideal.div (x (ix2 r j)) (len fun l => x (ix2 r l)) := by
  unfold rUnit len
  rw [hostDivf_apply, rCol_apply, maximumf_apply, rNorm_apply, rLit_apply]

theorem rPull_apply (w : BitVec 32) (a : FVec Ideal S1024 .f32) (x : FVec Ideal S4096x1024 .f32) (r : Fin 4096) (j : Fin 1024) :
    rPull w a x (ix2 r j) = pull (Ideal.ofBits .f32 w) (fun l => a (ix1 l)) (fun l => x (ix2 r l)) j := by
  unfold rPull pull
  rw [mulf_apply, rCol_apply, mulf_apply, subf_apply, rSum_apply, rUnit_apply, rLit_apply, rLit_apply]
  simp only [mulf_apply, subf_apply, rUnit_apply, rRow_apply]

theorem rDense_apply (w : FVec Ideal S1024x1024 .f32) (b : FVec Ideal S1024 .f32) (x : FVec Ideal S4096x1024 .f32)
    (r : Fin 4096) (j : Fin 1024) :
    rDense w b x (ix2 r j) = ∑ l : Fin 1024, x (ix2 r l) * w (ix2 j l) + b (ix1 j) := by
  unfold rDense
  rw [addf_apply, rRow_apply]
  congr 1
  refine (StackMember.dotGeneral_plain_apply (m := 4096) (k := 1024) (n := 1024) none x _ r j).trans ?_
  exact Finset.sum_congr rfl fun l _ => congrArg (x (ix2 r l) * ·)
    (transpose_apply _ w _ _ _ fun b => by match b with | ⟨0, _⟩ => rfl | ⟨1, _⟩ => rfl)

theorem rCap_apply (x : FVec Ideal S4096x1024 .f32) (r : Fin 4096) (j : Fin 1024) :
    rCap x (ix2 r j) = cap (fun l => x (ix2 r l)) j := by
  unfold rCap cap
  rw [select_apply, mulf_apply, rCol_apply, hostDivf_apply, addf_apply, rNorm_apply, rLit_apply, rLit_apply]
  have e : broadcastInDim S4096x1024 ![0, 1] bcast_S4096x1_S4096x1024_0_1 (cmpf .ogt (rNorm x) (rLit 0x41200000#32)) (ix2 r j)
      = BitVec.ofBool (decide (capLit < Ideal.sqrt (sq fun l => x (ix2 r l)))) := by
    refine (broadcastInDim_apply _ _ _ _ (ix2 r 0) fun b => by match b with | ⟨0, _⟩ => rfl | ⟨1, _⟩ => rfl).trans ?_
    rw [cmpf_apply, rNorm_apply, rLit_apply]
    rfl
  rw [e]
  by_cases h : capLit < Ideal.sqrt (sq fun l => x (ix2 r l))
  · rw [if_pos h, decide_eq_true h]; rfl
  · rw [if_neg h, decide_eq_false h]; rfl

theorem rAnchor_apply (a : FVec Ideal S1024 .f32) (j : Fin 1024) : rAnchor a (ix1 j) = unitRow (fun l => a (ix1 l)) j := by
  unfold rAnchor unitRow len
  rw [hostDivf_apply]
  congr 1
  refine (broadcastInDim_apply _ _ _ _ (ix1 0) fun b => by match b with | ⟨0, _⟩ => rfl).trans ?_
  rw [maximumf_apply, broadcastInDim_scalar_apply, constant_apply]
  congr 1
  refine congrArg Ideal.sqrt ?_
  rw [broadcastInDim_scalar_apply, hostReduceAdd_apply, constant_apply, Ideal.ofBits_zero_f32]
  refine (Ideal.hostReduceAdd_total _ (fun b => b.elim0) _ _ _).trans ?_
  rw [zero_add]
  exact sum_squares a

/-- A layer of the reference at a row. -/
theorem b128_apply (n : ℕ) (s : State Ideal) (r : Fin 4096) (j : Fin 1024) :
    b128 n s (ix2 r j) = rNext (fun p l => s.main_v24_0 (ix2 p l)) (fun p => s.main_v24_1 (ix1 p))
      (fun i p => s.main_v24_2 (ix2 i p)) (fun i => s.main_v24_3 (ix1 i))
      (fun l => s.main_v24_4 (ix1 l)) (fun l => s.main_v24_5 (ix1 l)) (fun l => s.main_v24_6 (ix1 l))
      (fun l => s.main_v24_9 (ix2 r l)) j := by
  rw [b128_eq, rCap_apply]
  unfold rNext
  refine congrArg (fun x : Fin 1024 → EReal => cap x j) (funext fun l => ?_)
  rw [b110_eq, b22_eq, b49_eq, b79_eq, b107_eq]
  unfold rMid
  rw [subf_apply, addf_apply, addf_apply, addf_apply, addf_apply, rPull_apply, rPull_apply, rPull_apply, rDense_apply,
    broadcastInDim_scalar_apply, constant_apply]
  have e : ∀ p : Fin 1024, (Host.tanh (rDense s.main_v24_0 s.main_v24_1 s.main_v24_9) : FVec Ideal S4096x1024 .f32) (ix2 r p)
      = Ideal.tanh (∑ q, s.main_v24_9 (ix2 r q) * s.main_v24_0 (ix2 p q) + s.main_v24_1 (ix1 p)) := fun p =>
    congrArg Ideal.tanh (rDense_apply _ _ _ r p)
  simp only [e]

/-! ## The run -/

variable (m : (ℓ : Loc nD τ sig) → Buf (Elt Ideal) ℓ) (ρ : Dev nD → PrngReg) (c : Dev nD)

/-- An argument array of device `c`. -/
abbrev argAt (b : Ref sig .tc) : Buf (Elt Ideal) ((c.tc : Thread nD τ).loc b) := m ((c.tc : Thread nD τ).loc b)

/-- The states between the trips. -/
def iter : ℕ → State Ideal
  | 0 => initState m c
  | n + 1 => step n (iter n)

/-- The biases of device `c` are zero. -/
def ZeroBiases : Prop := (∀ p : Fin 1024, argAt m c main_arg2 (ix1 p) = (0 : EReal)) ∧ ∀ p : Fin 1024, argAt m c main_arg4 (ix1 p) = (0 : EReal)

/-- The weights, the biases and the anchors are what they start as. -/
theorem iter_const (n : ℕ) :
    (iter m c n).main_v24_0 = argAt m c main_arg1 ∧ (iter m c n).main_v24_1 = argAt m c main_arg2
      ∧ (iter m c n).main_v24_2 = argAt m c main_arg3 ∧ (iter m c n).main_v24_3 = argAt m c main_arg4
      ∧ (iter m c n).main_v24_4 = rAnchor (F := Ideal) (argAt m c main_arg5) ∧ (iter m c n).main_v24_5 = rAnchor (F := Ideal) (argAt m c main_arg6)
      ∧ (iter m c n).main_v24_6 = rAnchor (F := Ideal) (argAt m c main_arg7) := by
  induction n with
  | zero => exact ⟨rfl, rfl, rfl, rfl, rfl, rfl, rfl⟩
  | succ n ih => exact ih

variable {m c} in
theorem iter_apply (hZ : ZeroBiases m c) (n : ℕ) (r : Fin 4096) :
    (fun j : Fin 1024 => (iter m c n).main_v24_9 (ix2 r j))
      = (rNext (fun p l => argAt m c main_arg1 (ix2 p l)) (fun _ => 0) (fun j p => argAt m c main_arg3 (ix2 j p)) (fun _ => 0)
        (unitRow fun l : Fin 1024 => argAt m c main_arg5 (ix1 l)) (unitRow fun l : Fin 1024 => argAt m c main_arg6 (ix1 l))
        (unitRow fun l : Fin 1024 => argAt m c main_arg7 (ix1 l)))^[n] (fun l => argAt m c main_arg0 (ix2 r l)) := by
  induction n with
  | zero => rfl
  | succ n ih =>
    rw [Function.iterate_succ_apply', ← ih]
    funext j
    refine (b128_apply n (iter m c n) r j).trans ?_
    obtain ⟨f0, f1, f2, f3, f4, f5, f6⟩ := iter_const m c n
    rw [f0, f1, f2, f3, f4, f5, f6]
    simp only [hZ.1, hZ.2, rAnchor_apply]

/-- What the result array is shown to hold. -/
abbrev result : Buf (Elt Ideal) ((c.tc : Thread nD τ).loc main_v24_9) :=
  target (argAt m c main_arg0) (argAt m c main_arg1) (argAt m c main_arg3) (argAt m c main_arg5) (argAt m c main_arg6) (argAt m c main_arg7)

variable {m c} in
theorem iter_six (hZ : ZeroBiases m c) : (iter m c 6).main_v24_9 = result m c := by
  funext i
  obtain ⟨r, j, rfl⟩ : ∃ (r : Fin 4096) (j : Fin 1024), i = ix2 r j := ⟨i 0, i 1, eq_ix2 i⟩
  exact congrFun (iter_apply hZ 6 r) j

variable {m} in
/-- The reference's run: the result at `target` of the arguments, the arguments unchanged. -/
theorem reference_run (hZ : ∀ c, ZeroBiases m c) :
    θ_run defs (onTc (τ := τ) (main (F := Ideal))) ⟨m, fun _ => 0, ρ⟩ fun r => ∀ c : Dev nD,
      r.2.mem ((c.tc : Thread nD τ).loc main_v24_9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (iter_six (hZ c)), (h c).2⟩)
    (Cert.ReferenceIdeal.StepRun.run_iter m ρ (fun c => iter m c) (fun _ => rfl) (fun _ _ => rfl))

end Collapse.Ref
-- ==== Proof.Precondition.lean ====
/-
  What the precondition says of the arguments: the biases are zero, and each anchor is proper.
-/
module

public import proofs.«01_k».proof.Defs
public import proofs.«01_k».proof.Proof.Anchors
public import Idealize.ShloMosaic.Lib.IdealHost
public import Idealize.ShloMosaic.Lib.ValueIdx

@[expose] public section

noncomputable section

namespace Collapse.Pre

open Idealize.ShloMosaic Idealize.ShloMosaic.ValueIdx Cert.Pre_zero_biases_and_proper_anchors
open scoped BigOperators

variable [Facts]

theorem infinite_eq : Ideal.ofBits .f32 0x7F800000#32 = ⊤ := by simp [Ideal.ofBits, Ideal.ieee]

/-- A comparison's bit is one only where the comparison holds. -/
theorem of_bit {p : Prop} [Decidable p] (h : BitVec.ofBool (decide p) = 1#1) : p := by
  by_contra hn
  rw [decide_eq_false hn] at h
  exact absurd h (by decide)

/-- A conjunction's bit is one only where both bits are. -/
theorem of_and (a b : Bool) (h : BitVec.ofBool a &&& BitVec.ofBool b = 1#1) : BitVec.ofBool a = 1#1 ∧ BitVec.ofBool b = 1#1 := by
  revert h; cases a <;> cases b <;> decide

/-- The norm of an anchor in the precondition's operations. -/
abbrev norm (a : FVec Ideal S1024 .f32) : FVec Ideal S_ .f32 :=
  Host.sqrt (Host.reduceAdd (mulf a a) (constant S_ .f32 0x00000000#32) Facts.reducesTo_S1024_S_d0 Facts.h_S_)

theorem norm_apply (a : FVec Ideal S1024 .f32) (i : S_.Idx) : norm a i = Ideal.sqrt (sq fun l : Fin 1024 => a (ix1 l)) := by
  refine congrArg Ideal.sqrt ?_
  rw [hostReduceAdd_apply, constant_apply, Ideal.ofBits_zero_f32]
  refine (Ideal.hostReduceAdd_total _ (fun b => b.elim0) _ _ _).trans ?_
  rw [zero_add]
  exact sum_squares a

theorem proper_of {a : FVec Ideal S1024 .f32}
    (h : andi (cmpf .oge (norm a) (constant S_ .f32 0x2B8CBCCC#32)) (cmpf .olt (norm a) (constant S_ .f32 0x7F800000#32)) = fun _ => 1#1) :
    Proper fun l : Fin 1024 => a (ix1 l) := by
  have hb : BitVec.ofBool (decide (floorLit ≤ norm a fun b => b.elim0))
      &&& BitVec.ofBool (decide ((norm a fun b => b.elim0) < Ideal.ofBits .f32 0x7F800000#32)) = 1#1 :=
    congrFun h fun b => b.elim0
  obtain ⟨h1, h2⟩ := of_and _ _ hb
  have h1 := of_bit h1
  have h2 := of_bit h2
  rw [norm_apply] at h1 h2
  rw [infinite_eq] at h2
  exact ⟨h1, h2⟩

theorem zero_of {b : FVec Ideal S1024 .f32}
    (h : cmpf .oeq b (broadcastInDim S1024 ![] Facts.bcast_S_S1024 (constant S_ .f32 0x00000000#32)) = fun _ => 1#1) (p : Fin 1024) :
    b (ix1 p) = (0 : EReal) := by
  have hb : BitVec.ofBool (decide (b (ix1 p) = Ideal.ofBits .f32 0x00000000#32)) = 1#1 := congrFun h (ix1 p)
  exact (of_bit hb).trans Ideal.ofBits_zero_f32

end Collapse.Pre
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.StepRun
public import proofs.«01_k».proof.Proof.Gen.Pre_zero_biases_and_proper_anchors
public import proofs.«01_k».proof.Proof.KernelRun
public import proofs.«01_k».proof.Proof.Reference
public import proofs.«01_k».proof.Proof.Precondition
public import Idealize.ShloMosaic.Adequacy
public import Idealize.ShloMosaic.Init

@[expose] public section

noncomputable section

namespace Cert.Proof

open Idealize.ShloMosaic Idealize.SL.Sem Cert.Kernel

/-- The reference's arguments end unchanged; it has no semaphores. -/
theorem reference_quiescent : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition both programs end at `Collapse.target` of the arguments. -/
theorem results_agree : Cert.algebraic_KernelIdeal_ReferenceIdeal_pre_zero_biases_and_proper_anchors := by
  intro m g m' g' hpre hargs
  have hP : ∀ c, Collapse.AllProper m c := fun c =>
    ⟨Collapse.Pre.proper_of (hpre c).2.2.1, Collapse.Pre.proper_of (hpre c).2.2.2.1, Collapse.Pre.proper_of (hpre c).2.2.2.2⟩
  have hZ : ∀ c, Collapse.Ref.ZeroBiases m' c := fun c =>
    ⟨fun p => (congrFun (hargs c).2.2.1 _).trans (Collapse.Pre.zero_of (hpre c).1 p),
      fun p => (congrFun (hargs c).2.2.2.2.1 _).trans (Collapse.Pre.zero_of (hpre c).2.1 p)⟩
  refine ⟨fun c => Collapse.result m c, Collapse.kernel_run g hP, ?_⟩
  refine (θ_run Cert.ReferenceIdeal.defs _ _).mono (fun r h c => ⟨(h c).1.trans ?_, (h c).2⟩) (Collapse.Ref.reference_run g' hZ)
  obtain ⟨e0, e1, -, e3, -, e5, e6, e7⟩ := hargs c
  exact Collapse.target_congr e0 e1 e3 e5 e6 e7

theorem claim : Cert.Claim := ⟨Cert.Kernel.Gen.facts, Cert.KernelIdeal.Gen.facts, Cert.ReferenceIdeal.Gen.facts,
  Cert.Pre_zero_biases_and_proper_anchors.Gen.facts, fun m ρ _ => Cert.Kernel.Gen.frame m ρ,
  fun m ρ _ => Cert.KernelIdeal.Gen.frame m ρ, fun m ρ _ => Cert.KernelIdeal.Gen.frame m ρ,
  reference_quiescent, fun m ρ _ => reference_quiescent m ρ trivial, trivial, results_agree⟩

end Cert.Proof

end
